-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coaligned [hPre_coaligned : Cert.Pre_coaligned.Facts] (m : (ℓ : Loc Cert.KernelIdeal.nD Cert.KernelIdeal.τ Cert.KernelIdeal.sig) → Buf (Elt Ideal) ℓ) : Prop :=
  ∀ c : Dev Cert.KernelIdeal.nD,
    (Cert.Pre_coaligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_coaligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_coaligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coaligned [hPre_coaligned : Cert.Pre_coaligned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coaligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_coaligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_coaligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_coaligned [hKernelIdeal : Cert.KernelIdeal.Facts] [hPre_coaligned : Cert.Pre_coaligned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coaligned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_coaligned [hReferenceIdeal : Cert.ReferenceIdeal.Facts] [hPre_coaligned : Cert.Pre_coaligned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coaligned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_coaligned [hKernelIdeal : Cert.KernelIdeal.Facts] [hReferenceIdeal : Cert.ReferenceIdeal.Facts] [hPre_coaligned : Cert.Pre_coaligned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coaligned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_coaligned : Cert.Pre_coaligned.Facts),
    quiescent_Kernel (hKernel := hKernel)
    ∧ quiescent_KernelIdeal (hKernelIdeal := hKernelIdeal)
    ∧ quiescent_KernelIdeal_pre_coaligned (hKernelIdeal := hKernelIdeal) (hPre_coaligned := hPre_coaligned)
    ∧ quiescent_ReferenceIdeal (hReferenceIdeal := hReferenceIdeal)
    ∧ quiescent_ReferenceIdeal_pre_coaligned (hReferenceIdeal := hReferenceIdeal) (hPre_coaligned := hPre_coaligned)
    ∧ preserves_Kernel_KernelIdeal
    ∧ algebraic_KernelIdeal_ReferenceIdeal_pre_coaligned (hKernelIdeal := hKernelIdeal) (hReferenceIdeal := hReferenceIdeal) (hPre_coaligned := hPre_coaligned)
-- ==== Pre_coaligned.lean ====
abbrev S128x55x55x96 : Shape := ⟨4, ![128, 55, 55, 96]⟩
abbrev S96x25x25 : Shape := ⟨3, ![96, 25, 25]⟩
abbrev S_ : Shape := ⟨0, ![]⟩
abbrev S96x1x1 : Shape := ⟨3, ![96, 1, 1]⟩

class Facts : Prop where
  bcast_S_S96x25x25 : S_.BroadcastsInDim S96x25x25 (![] : Fin 0 → Fin S96x25x25.rank)
  slices_S96x25x25_S96x1x1_0_1_17 : S96x25x25.Slices ![0, 1, 17] S96x1x1
  bcast_S96x1x1_S96x25x25_0_1_2 : S96x1x1.BroadcastsInDim S96x25x25 (![0, 1, 2] : Fin 3 → Fin S96x25x25.rank)
  slices_S96x25x25_S96x1x1_0_1_8 : S96x25x25.Slices ![0, 1, 8] S96x1x1
  slices_S96x25x25_S96x1x1_0_0_0 : S96x25x25.Slices ![0, 0, 0] S96x1x1
  slices_S96x25x25_S96x1x1_0_12_0 : S96x25x25.Slices ![0, 12, 0] S96x1x1
  bcast_S_S128x55x55x96 : S_.BroadcastsInDim S128x55x55x96 (![] : Fin 0 → Fin S128x55x55x96.rank)

variable [Facts]

def fn_part10 {F : FTy → Type} [FloatOps F] (main_arg0 : FVec F S128x55x55x96 .f32) (main_arg1 : FVec F S96x25x25 .f32) (main_v170 : FVec F S96x25x25 .f32) (main_v181 : IVec S96x25x25 1) (main_v183 : FVec F S96x25x25 .f32) : IVec S128x55x55x96 1 × IVec S96x25x25 1 × IVec S96x25x25 1 :=
  let main_v184 : FVec F S96x25x25 .f32 := select main_v181 main_v183 main_v170
  let main_v185 : FVec F S128x55x55x96 .f32 := Host.absf main_arg0
  let main_cst_54 : FVec F S_ .f32 := constant S_ .f32 0x7F800000#32
  let main_v186 : FVec F S128x55x55x96 .f32 := broadcastInDim S128x55x55x96 ![] bcast_S_S128x55x55x96 main_cst_54
  let main_v187 : IVec S128x55x55x96 1 := cmpf .olt main_v185 main_v186
  let main_v188 : FVec F S96x25x25 .f32 := Host.absf main_arg1
  let main_cst_55 : FVec F S_ .f32 := constant S_ .f32 0x7F800000#32
  let main_v189 : FVec F S96x25x25 .f32 := broadcastInDim S96x25x25 ![] bcast_S_S96x25x25 main_cst_55
  let main_v190 : IVec S96x25x25 1 := cmpf .olt main_v188 main_v189
  let main_v191 : IVec S96x25x25 1 := cmpf .oeq main_arg1 main_v184
  (main_v187, main_v190, main_v191)

def fn_part9 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v155 : FVec F S96x25x25 .f32) (main_v163 : IVec S96x25x25 1) (main_c_49 : IVec S_ 32) : IVec S128x55x55x96 1 × IVec S96x25x25 1 × IVec S96x25x25 1 :=
  let main_v164 : IVec S96x25x25 32 := broadcastInDim S96x25x25 ![] bcast_S_S96x25x25 main_c_49
  let main_v165 : IVec S96x25x25 1 := cmpi .eq main_v2 main_v164
  let main_v166 : IVec S96x25x25 1 := andi main_v163 main_v165
  let main_v167 : FVec F S96x1x1 .f32 := (extractStridedSlice S96x1x1 ![0, 12, 0] · slices_S96x25x25_S96x1x1_0_12_0) main_arg1
  let main_v168 : FVec F S96x25x25 .f32 := broadcastInDim S96x25x25 ![0, 1, 2] bcast_S96x1x1_S96x25x25_0_1_2 main_v167
  let main_v169 : FVec F S96x25x25 .f32 := Host.negf main_v168
  let main_v170 : FVec F S96x25x25 .f32 := select main_v166 main_v169 main_v155
  let main_c_50 : IVec S_ 32 := constantI S_ 32 3#32
  let main_v171 : IVec S96x25x25 32 := broadcastInDim S96x25x25 ![] bcast_S_S96x25x25 main_c_50
  let main_v172 : IVec S96x25x25 32 := Host.remsi main_v2 main_v171
  let main_c_51 : IVec S_ 32 := constantI S_ 32 0#32
  let main_v173 : IVec S96x25x25 32 := broadcastInDim S96x25x25 ![] bcast_S_S96x25x25 main_c_51
  let main_v174 : IVec S96x25x25 1 := cmpi .eq main_v172 main_v173
  let main_c_52 : IVec S_ 32 := constantI S_ 32 12#32
  let main_v175 : IVec S96x25x25 32 := broadcastInDim S96x25x25 ![] bcast_S_S96x25x25 main_c_52
  let main_v176 : IVec S96x25x25 1 := cmpi .ne main_v2 main_v175
  let main_v177 : IVec S96x25x25 1 := andi main_v174 main_v176
  let main_v178 : IVec S96x25x25 1 := andi main_v7 main_v177
  let main_c_53 : IVec S_ 32 := constantI S_ 32 12#32
  let main_v179 : IVec S96x25x25 32 := broadcastInDim S96x25x25 ![] bcast_S_S96x25x25 main_c_53
  let main_v180 : IVec S96x25x25 1 := cmpi .eq main_v1 main_v179
  let main_v181 : IVec S96x25x25 1 := andi main_v178 main_v180
  let main_v182 : FVec F S96x1x1 .f32 := (extractStridedSlice S96x1x1 ![0, 12, 0] · slices_S96x25x25_S96x1x1_0_12_0) main_arg1
  let main_v183 : FVec F S96x25x25 .f32 := broadcastInDim S96x25x25 ![0, 1, 2] bcast_S96x1x1_S96x25x25_0_1_2 main_v182
  fn_part10 (F := F) main_arg0 main_arg1 main_v170 main_v181 main_v183

def fn_part8 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v142 : FVec F S96x25x25 .f32) (main_v144 : IVec S96x25x25 32) (main_c_44 : IVec S_ 32) : IVec S128x55x55x96 1 × IVec S96x25x25 1 × IVec S96x25x25 1 :=
  let main_v145 : IVec S96x25x25 32 := broadcastInDim S96x25x25 ![] bcast_S_S96x25x25 main_c_44
  let main_v146 : IVec S96x25x25 1 := cmpi .eq main_v144 main_v145
  let main_c_45 : IVec S_ 32 := constantI S_ 32 12#32
  let main_v147 : IVec S96x25x25 32 := broadcastInDim S96x25x25 ![] bcast_S_S96x25x25 main_c_45
  let main_v148 : IVec S96x25x25 1 := cmpi .ne main_v1 main_v147
  let main_v149 : IVec S96x25x25 1 := andi main_v146 main_v148
  let main_v150 : IVec S96x25x25 1 := andi main_v12 main_v149
  let main_v151 : IVec S96x25x25 1 := cmpi .eq main_v1 main_v2
  let main_v152 : IVec S96x25x25 1 := andi main_v150 main_v151
  let main_v153 : FVec F S96x1x1 .f32 := (extractStridedSlice S96x1x1 ![0, 0, 0] · slices_S96x25x25_S96x1x1_0_0_0) main_arg1
  let main_v154 : FVec F S96x25x25 .f32 := broadcastInDim S96x25x25 ![0, 1, 2] bcast_S96x1x1_S96x25x25_0_1_2 main_v153
  let main_v155 : FVec F S96x25x25 .f32 := select main_v152 main_v154 main_v142
  let main_c_46 : IVec S_ 32 := constantI S_ 32 3#32
  let main_v156 : IVec S96x25x25 32 := broadcastInDim S96x25x25 ![] bcast_S_S96x25x25 main_c_46
  let main_v157 : IVec S96x25x25 32 := Host.remsi main_v1 main_v156
  let main_c_47 : IVec S_ 32 := constantI S_ 32 0#32
  let main_v158 : IVec S96x25x25 32 := broadcastInDim S96x25x25 ![] bcast_S_S96x25x25 main_c_47
  let main_v159 : IVec S96x25x25 1 := cmpi .eq main_v157 main_v158
  let main_c_48 : IVec S_ 32 := constantI S_ 32 12#32
  let main_v160 : IVec S96x25x25 32 := broadcastInDim S96x25x25 ![] bcast_S_S96x25x25 main_c_48
  let main_v161 : IVec S96x25x25 1 := cmpi .ne main_v1 main_v160
  let main_v162 : IVec S96x25x25 1 := andi main_v159 main_v161
  let main_v163 : IVec S96x25x25 1 := andi main_v7 main_v162
  let main_c_49 : IVec S_ 32 := constantI S_ 32 12#32
  fn_part9 (F := F) main_arg0 main_arg1 main_v1 main_v2 main_v7 main_v155 main_v163 main_c_49

def fn_part7 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v126 : FVec F S96x25x25 .f32) : IVec S128x55x55x96 1 × IVec S96x25x25 1 × IVec S96x25x25 1 :=
  let main_c_39 : IVec S_ 32 := constantI S_ 32 3#32
  let main_v127 : IVec S96x25x25 32 := broadcastInDim S96x25x25 ![] bcast_S_S96x25x25 main_c_39
  let main_v128 : IVec S96x25x25 32 := Host.remsi main_v1 main_v127
  let main_c_40 : IVec S_ 32 := constantI S_ 32 0#32
  let main_v129 : IVec S96x25x25 32 := broadcastInDim S96x25x25 ![] bcast_S_S96x25x25 main_c_40
  let main_v130 : IVec S96x25x25 1 := cmpi .eq main_v128 main_v129
  let main_c_41 : IVec S_ 32 := constantI S_ 32 12#32
  let main_v131 : IVec S96x25x25 32 := broadcastInDim S96x25x25 ![] bcast_S_S96x25x25 main_c_41
  let main_v132 : IVec S96x25x25 1 := cmpi .ne main_v1 main_v131
  let main_v133 : IVec S96x25x25 1 := andi main_v130 main_v132
  let main_v134 : IVec S96x25x25 1 := andi main_v12 main_v133
  let main_v135 : IVec S96x25x25 32 := addi main_v1 main_v2
  let main_c_42 : IVec S_ 32 := constantI S_ 32 24#32
  let main_v136 : IVec S96x25x25 32 := broadcastInDim S96x25x25 ![] bcast_S_S96x25x25 main_c_42
  let main_v137 : IVec S96x25x25 1 := cmpi .eq main_v135 main_v136
  let main_v138 : IVec S96x25x25 1 := andi main_v134 main_v137
  let main_v139 : FVec F S96x1x1 .f32 := (extractStridedSlice S96x1x1 ![0, 0, 0] · slices_S96x25x25_S96x1x1_0_0_0) main_arg1
  let main_v140 : FVec F S96x25x25 .f32 := broadcastInDim S96x25x25 ![0, 1, 2] bcast_S96x1x1_S96x25x25_0_1_2 main_v139
  let main_v141 : FVec F S96x25x25 .f32 := Host.negf main_v140
  let main_v142 : FVec F S96x25x25 .f32 := select main_v138 main_v141 main_v126
  let main_c_43 : IVec S_ 32 := constantI S_ 32 3#32
  let main_v143 : IVec S96x25x25 32 := broadcastInDim S96x25x25 ![] bcast_S_S96x25x25 main_c_43
  let main_v144 : IVec S96x25x25 32 := Host.remsi main_v1 main_v143
  let main_c_44 : IVec S_ 32 := constantI S_ 32 0#32
  fn_part8 (F := F) main_arg0 main_arg1 main_v1 main_v2 main_v7 main_v12 main_v142 main_v144 main_c_44

def fn_part6 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v74 : FVec F S96x25x25 .f32) (main_v75 : IVec S96x25x25 1) (main_v80 : IVec S96x25x25 1) (main_v85 : IVec S96x25x25 1) (main_v90 : IVec S96x25x25 1) (main_v95 : IVec S96x25x25 1) (main_v100 : IVec S96x25x25 1) (main_v105 : IVec S96x25x25 1) (main_c_35 : IVec S_ 32) : IVec S128x55x55x96 1 × IVec S96x25x25 1 × IVec S96x25x25 1 :=
  let main_v106 : IVec S96x25x25 32 := broadcastInDim S96x25x25 ![] bcast_S_S96x25x25 main_c_35
  let main_v107 : IVec S96x25x25 1 := cmpi .eq main_v1 main_v106
  let main_c_36 : IVec S_ 32 := constantI S_ 32 15#32
  let main_v108 : IVec S96x25x25 32 := broadcastInDim S96x25x25 ![] bcast_S_S96x25x25 main_c_36
  let main_v109 : IVec S96x25x25 1 := cmpi .eq main_v2 main_v108
  let main_v110 : IVec S96x25x25 1 := andi main_v107 main_v109
  let main_c_37 : IVec S_ 32 := constantI S_ 32 23#32
  let main_v111 : IVec S96x25x25 32 := broadcastInDim S96x25x25 ![] bcast_S_S96x25x25 main_c_37
  let main_v112 : IVec S96x25x25 1 := cmpi .eq main_v1 main_v111
  let main_c_38 : IVec S_ 32 := constantI S_ 32 16#32
  let main_v113 : IVec S96x25x25 32 := broadcastInDim S96x25x25 ![] bcast_S_S96x25x25 main_c_38
  let main_v114 : IVec S96x25x25 1 := cmpi .eq main_v2 main_v113
  let main_v115 : IVec S96x25x25 1 := andi main_v112 main_v114
  let main_v116 : IVec S96x25x25 1 := ori main_v80 main_v85
  let main_v117 : IVec S96x25x25 1 := ori main_v116 main_v90
  let main_v118 : IVec S96x25x25 1 := ori main_v117 main_v95
  let main_v119 : IVec S96x25x25 1 := ori main_v118 main_v100
  let main_v120 : IVec S96x25x25 1 := ori main_v119 main_v105
  let main_v121 : IVec S96x25x25 1 := ori main_v120 main_v110
  let main_v122 : IVec S96x25x25 1 := ori main_v121 main_v115
  let main_v123 : IVec S96x25x25 1 := andi main_v75 main_v122
  let main_v124 : FVec F S96x1x1 .f32 := (extractStridedSlice S96x1x1 ![0, 1, 8] · slices_S96x25x25_S96x1x1_0_1_8) main_arg1
  let main_v125 : FVec F S96x25x25 .f32 := broadcastInDim S96x25x25 ![0, 1, 2] bcast_S96x1x1_S96x25x25_0_1_2 main_v124
  let main_v126 : FVec F S96x25x25 .f32 := select main_v123 main_v125 main_v74
  fn_part7 (F := F) main_arg0 main_arg1 main_v1 main_v2 main_v7 main_v12 main_v126

def fn_part5 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v74 : FVec F S96x25x25 .f32) (main_v75 : IVec S96x25x25 1) (main_v80 : IVec S96x25x25 1) (main_v85 : IVec S96x25x25 1) (main_v87 : IVec S96x25x25 1) (main_v88 : IVec S96x25x25 32) : IVec S128x55x55x96 1 × IVec S96x25x25 1 × IVec S96x25x25 1 :=
  let main_v89 : IVec S96x25x25 1 := cmpi .eq main_v2 main_v88
  let main_v90 : IVec S96x25x25 1 := andi main_v87 main_v89
  let main_c_29 : IVec S_ 32 := constantI S_ 32 9#32
  let main_v91 : IVec S96x25x25 32 := broadcastInDim S96x25x25 ![] bcast_S_S96x25x25 main_c_29
  let main_v92 : IVec S96x25x25 1 := cmpi .eq main_v1 main_v91
  let main_c_30 : IVec S_ 32 := constantI S_ 32 11#32
  let main_v93 : IVec S96x25x25 32 := broadcastInDim S96x25x25 ![] bcast_S_S96x25x25 main_c_30
  let main_v94 : IVec S96x25x25 1 := cmpi .eq main_v2 main_v93
  let main_v95 : IVec S96x25x25 1 := andi main_v92 main_v94
  let main_c_31 : IVec S_ 32 := constantI S_ 32 15#32
  let main_v96 : IVec S96x25x25 32 := broadcastInDim S96x25x25 ![] bcast_S_S96x25x25 main_c_31
  let main_v97 : IVec S96x25x25 1 := cmpi .eq main_v1 main_v96
  let main_c_32 : IVec S_ 32 := constantI S_ 32 13#32
  let main_v98 : IVec S96x25x25 32 := broadcastInDim S96x25x25 ![] bcast_S_S96x25x25 main_c_32
  let main_v99 : IVec S96x25x25 1 := cmpi .eq main_v2 main_v98
  let main_v100 : IVec S96x25x25 1 := andi main_v97 main_v99
  let main_c_33 : IVec S_ 32 := constantI S_ 32 17#32
  let main_v101 : IVec S96x25x25 32 := broadcastInDim S96x25x25 ![] bcast_S_S96x25x25 main_c_33
  let main_v102 : IVec S96x25x25 1 := cmpi .eq main_v1 main_v101
  let main_c_34 : IVec S_ 32 := constantI S_ 32 14#32
  let main_v103 : IVec S96x25x25 32 := broadcastInDim S96x25x25 ![] bcast_S_S96x25x25 main_c_34
  let main_v104 : IVec S96x25x25 1 := cmpi .eq main_v2 main_v103
  let main_v105 : IVec S96x25x25 1 := andi main_v102 main_v104
  let main_c_35 : IVec S_ 32 := constantI S_ 32 20#32
  fn_part6 (F := F) main_arg0 main_arg1 main_v1 main_v2 main_v7 main_v12 main_v74 main_v75 main_v80 main_v85 main_v90 main_v95 main_v100 main_v105 main_c_35

def fn_part4 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v17 : IVec S96x25x25 1) (main_v22 : IVec S96x25x25 1) (main_v23 : FVec F S96x25x25 .f32) (main_v70 : IVec S96x25x25 1) : IVec S128x55x55x96 1 × IVec S96x25x25 1 × IVec S96x25x25 1 :=
  let main_v71 : IVec S96x25x25 1 := andi main_v22 main_v70
  let main_v72 : FVec F S96x1x1 .f32 := (extractStridedSlice S96x1x1 ![0, 1, 17] · slices_S96x25x25_S96x1x1_0_1_17) main_arg1
  let main_v73 : FVec F S96x25x25 .f32 := broadcastInDim S96x25x25 ![0, 1, 2] bcast_S96x1x1_S96x25x25_0_1_2 main_v72
  let main_v74 : FVec F S96x25x25 .f32 := select main_v71 main_v73 main_v23
  let main_v75 : IVec S96x25x25 1 := ori main_v17 main_v12
  let main_c_23 : IVec S_ 32 := constantI S_ 32 1#32
  let main_v76 : IVec S96x25x25 32 := broadcastInDim S96x25x25 ![] bcast_S_S96x25x25 main_c_23
  let main_v77 : IVec S96x25x25 1 := cmpi .eq main_v1 main_v76
  let main_c_24 : IVec S_ 32 := constantI S_ 32 8#32
  let main_v78 : IVec S96x25x25 32 := broadcastInDim S96x25x25 ![] bcast_S_S96x25x25 main_c_24
  let main_v79 : IVec S96x25x25 1 := cmpi .eq main_v2 main_v78
  let main_v80 : IVec S96x25x25 1 := andi main_v77 main_v79
  let main_c_25 : IVec S_ 32 := constantI S_ 32 4#32
  let main_v81 : IVec S96x25x25 32 := broadcastInDim S96x25x25 ![] bcast_S_S96x25x25 main_c_25
  let main_v82 : IVec S96x25x25 1 := cmpi .eq main_v1 main_v81
  let main_c_26 : IVec S_ 32 := constantI S_ 32 9#32
  let main_v83 : IVec S96x25x25 32 := broadcastInDim S96x25x25 ![] bcast_S_S96x25x25 main_c_26
  let main_v84 : IVec S96x25x25 1 := cmpi .eq main_v2 main_v83
  let main_v85 : IVec S96x25x25 1 := andi main_v82 main_v84
  let main_c_27 : IVec S_ 32 := constantI S_ 32 6#32
  let main_v86 : IVec S96x25x25 32 := broadcastInDim S96x25x25 ![] bcast_S_S96x25x25 main_c_27
  let main_v87 : IVec S96x25x25 1 := cmpi .eq main_v1 main_v86
  let main_c_28 : IVec S_ 32 := constantI S_ 32 10#32
  let main_v88 : IVec S96x25x25 32 := broadcastInDim S96x25x25 ![] bcast_S_S96x25x25 main_c_28
  fn_part5 (F := F) main_arg0 main_arg1 main_v1 main_v2 main_v7 main_v12 main_v74 main_v75 main_v80 main_v85 main_v87 main_v88

def fn_part3 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v17 : IVec S96x25x25 1) (main_v22 : IVec S96x25x25 1) (main_v23 : FVec F S96x25x25 .f32) (main_v28 : IVec S96x25x25 1) (main_v33 : IVec S96x25x25 1) (main_v38 : IVec S96x25x25 1) (main_v43 : IVec S96x25x25 1) (main_v48 : IVec S96x25x25 1) (main_v50 : IVec S96x25x25 1) (main_c_18 : IVec S_ 32) : IVec S128x55x55x96 1 × IVec S96x25x25 1 × IVec S96x25x25 1 :=
  let main_v51 : IVec S96x25x25 32 := broadcastInDim S96x25x25 ![] bcast_S_S96x25x25 main_c_18
  let main_v52 : IVec S96x25x25 1 := cmpi .eq main_v2 main_v51
  let main_v53 : IVec S96x25x25 1 := andi main_v50 main_v52
  let main_c_19 : IVec S_ 32 := constantI S_ 32 21#32
  let main_v54 : IVec S96x25x25 32 := broadcastInDim S96x25x25 ![] bcast_S_S96x25x25 main_c_19
  let main_v55 : IVec S96x25x25 1 := cmpi .eq main_v1 main_v54
  let main_c_20 : IVec S_ 32 := constantI S_ 32 8#32
  let main_v56 : IVec S96x25x25 32 := broadcastInDim S96x25x25 ![] bcast_S_S96x25x25 main_c_20
  let main_v57 : IVec S96x25x25 1 := cmpi .eq main_v2 main_v56
  let main_v58 : IVec S96x25x25 1 := andi main_v55 main_v57
  let main_c_21 : IVec S_ 32 := constantI S_ 32 23#32
  let main_v59 : IVec S96x25x25 32 := broadcastInDim S96x25x25 ![] bcast_S_S96x25x25 main_c_21
  let main_v60 : IVec S96x25x25 1 := cmpi .eq main_v1 main_v59
  let main_c_22 : IVec S_ 32 := constantI S_ 32 7#32
  let main_v61 : IVec S96x25x25 32 := broadcastInDim S96x25x25 ![] bcast_S_S96x25x25 main_c_22
  let main_v62 : IVec S96x25x25 1 := cmpi .eq main_v2 main_v61
  let main_v63 : IVec S96x25x25 1 := andi main_v60 main_v62
  let main_v64 : IVec S96x25x25 1 := ori main_v28 main_v33
  let main_v65 : IVec S96x25x25 1 := ori main_v64 main_v38
  let main_v66 : IVec S96x25x25 1 := ori main_v65 main_v43
  let main_v67 : IVec S96x25x25 1 := ori main_v66 main_v48
  let main_v68 : IVec S96x25x25 1 := ori main_v67 main_v53
  let main_v69 : IVec S96x25x25 1 := ori main_v68 main_v58
  let main_v70 : IVec S96x25x25 1 := ori main_v69 main_v63
  fn_part4 (F := F) main_arg0 main_arg1 main_v1 main_v2 main_v7 main_v12 main_v17 main_v22 main_v23 main_v70

def fn_part2 {F : FTy → Type} [FloatOps F] (main_arg0 : FVec F S128x55x55x96 .f32) (main_arg1 : FVec F S96x25x25 .f32) (main_v1 : IVec S96x25x25 32) (main_v2 : IVec S96x25x25 32) (main_v7 : IVec S96x25x25 1) (main_v12 : IVec S96x25x25 1) (main_v17 : IVec S96x25x25 1) (main_v22 : IVec S96x25x25 1) (main_v23 : FVec F S96x25x25 .f32) (main_v28 : IVec S96x25x25 1) (main_v33 : IVec S96x25x25 1) (main_c_11 : IVec S_ 32) : IVec S128x55x55x96 1 × IVec S96x25x25 1 × IVec S96x25x25 1 :=
  let main_v34 : IVec S96x25x25 32 := broadcastInDim S96x25x25 ![] bcast_S_S96x25x25 main_c_11
  let main_v35 : IVec S96x25x25 1 := cmpi .eq main_v1 main_v34
  let main_c_12 : IVec S_ 32 := constantI S_ 32 14#32
  let main_v36 : IVec S96x25x25 32 := broadcastInDim S96x25x25 ![] bcast_S_S96x25x25 main_c_12
  let main_v37 : IVec S96x25x25 1 := cmpi .eq main_v2 main_v36
  let main_v38 : IVec S96x25x25 1 := andi main_v35 main_v37
  let main_c_13 : IVec S_ 32 := constantI S_ 32 10#32
  let main_v39 : IVec S96x25x25 32 := broadcastInDim S96x25x25 ![] bcast_S_S96x25x25 main_c_13
  let main_v40 : IVec S96x25x25 1 := cmpi .eq main_v1 main_v39
  let main_c_14 : IVec S_ 32 := constantI S_ 32 13#32
  let main_v41 : IVec S96x25x25 32 := broadcastInDim S96x25x25 ![] bcast_S_S96x25x25 main_c_14
  let main_v42 : IVec S96x25x25 1 := cmpi .eq main_v2 main_v41
  let main_v43 : IVec S96x25x25 1 := andi main_v40 main_v42
  let main_c_15 : IVec S_ 32 := constantI S_ 32 14#32
  let main_v44 : IVec S96x25x25 32 := broadcastInDim S96x25x25 ![] bcast_S_S96x25x25 main_c_15
  let main_v45 : IVec S96x25x25 1 := cmpi .eq main_v1 main_v44
  let main_c_16 : IVec S_ 32 := constantI S_ 32 11#32
  let main_v46 : IVec S96x25x25 32 := broadcastInDim S96x25x25 ![] bcast_S_S96x25x25 main_c_16
  let main_v47 : IVec S96x25x25 1 := cmpi .eq main_v2 main_v46
  let main_v48 : IVec S96x25x25 1 := andi main_v45 main_v47
  let main_c_17 : IVec S_ 32 := constantI S_ 32 17#32
  let main_v49 : IVec S96x25x25 32 := broadcastInDim S96x25x25 ![] bcast_S_S96x25x25 main_c_17
  let main_v50 : IVec S96x25x25 1 := cmpi .eq main_v1 main_v49
  let main_c_18 : IVec S_ 32 := constantI S_ 32 10#32
  fn_part3 (F := F) main_arg0 main_arg1 main_v1 main_v2 main_v7 main_v12 main_v17 main_v22 main_v23 main_v28 main_v33 main_v38 main_v43 main_v48 main_v50 main_c_18

def fn_part1 {F : FTy → Type} [FloatOps F] (main_arg0 : FVec F S128x55x55x96 .f32) (main_arg1 : FVec F S96x25x25 .f32) (main_v0 : IVec S96x25x25 32) (main_v1 : IVec S96x25x25 32) (main_v2 : IVec S96x25x25 32) (main_v7 : IVec S96x25x25 1) (main_v12 : IVec S96x25x25 1) (main_v17 : IVec S96x25x25 1) : IVec S128x55x55x96 1 × IVec S96x25x25 1 × IVec S96x25x25 1 :=
  let main_c_5 : IVec S_ 32 := constantI S_ 32 72#32
  let main_v18 : IVec S96x25x25 32 := broadcastInDim S96x25x25 ![] bcast_S_S96x25x25 main_c_5
  let main_v19 : IVec S96x25x25 1 := cmpi .sge main_v0 main_v18
  let main_c_6 : IVec S_ 32 := constantI S_ 32 80#32
  let main_v20 : IVec S96x25x25 32 := broadcastInDim S96x25x25 ![] bcast_S_S96x25x25 main_c_6
  let main_v21 : IVec S96x25x25 1 := cmpi .slt main_v0 main_v20
  let main_v22 : IVec S96x25x25 1 := andi main_v19 main_v21
  let main_cst : FVec F S_ .f32 := constant S_ .f32 0x00000000#32
  let main_v23 : FVec F S96x25x25 .f32 := broadcastInDim S96x25x25 ![] bcast_S_S96x25x25 main_cst
  let main_c_7 : IVec S_ 32 := constantI S_ 32 1#32
  let main_v24 : IVec S96x25x25 32 := broadcastInDim S96x25x25 ![] bcast_S_S96x25x25 main_c_7
  let main_v25 : IVec S96x25x25 1 := cmpi .eq main_v1 main_v24
  let main_c_8 : IVec S_ 32 := constantI S_ 32 17#32
  let main_v26 : IVec S96x25x25 32 := broadcastInDim S96x25x25 ![] bcast_S_S96x25x25 main_c_8
  let main_v27 : IVec S96x25x25 1 := cmpi .eq main_v2 main_v26
  let main_v28 : IVec S96x25x25 1 := andi main_v25 main_v27
  let main_c_9 : IVec S_ 32 := constantI S_ 32 3#32
  let main_v29 : IVec S96x25x25 32 := broadcastInDim S96x25x25 ![] bcast_S_S96x25x25 main_c_9
  let main_v30 : IVec S96x25x25 1 := cmpi .eq main_v1 main_v29
  let main_c_10 : IVec S_ 32 := constantI S_ 32 16#32
  let main_v31 : IVec S96x25x25 32 := broadcastInDim S96x25x25 ![] bcast_S_S96x25x25 main_c_10
  let main_v32 : IVec S96x25x25 1 := cmpi .eq main_v2 main_v31
  let main_v33 : IVec S96x25x25 1 := andi main_v30 main_v32
  let main_c_11 : IVec S_ 32 := constantI S_ 32 7#32
  fn_part2 (F := F) main_arg0 main_arg1 main_v1 main_v2 main_v7 main_v12 main_v17 main_v22 main_v23 main_v28 main_v33 main_c_11

def fn {F : FTy → Type} [FloatOps F] (main_arg0 : FVec F S128x55x55x96 .f32) (main_arg1 : FVec F S96x25x25 .f32) : IVec S128x55x55x96 1 × IVec S96x25x25 1 × IVec S96x25x25 1 :=
  let main_v0 : IVec S96x25x25 32 := iotaInDim S96x25x25 32 0
  let main_v1 : IVec S96x25x25 32 := iotaInDim S96x25x25 32 1
  let main_v2 : IVec S96x25x25 32 := iotaInDim S96x25x25 32 2
  let main_c : IVec S_ 32 := constantI S_ 32 0#32
  let main_v3 : IVec S96x25x25 32 := broadcastInDim S96x25x25 ![] bcast_S_S96x25x25 main_c
  let main_v4 : IVec S96x25x25 1 := cmpi .sge main_v0 main_v3
  let main_c_0 : IVec S_ 32 := constantI S_ 32 16#32
  let main_v5 : IVec S96x25x25 32 := broadcastInDim S96x25x25 ![] bcast_S_S96x25x25 main_c_0
  let main_v6 : IVec S96x25x25 1 := cmpi .slt main_v0 main_v5
  let main_v7 : IVec S96x25x25 1 := andi main_v4 main_v6
  let main_c_1 : IVec S_ 32 := constantI S_ 32 64#32
  let main_v8 : IVec S96x25x25 32 := broadcastInDim S96x25x25 ![] bcast_S_S96x25x25 main_c_1
  let main_v9 : IVec S96x25x25 1 := cmpi .sge main_v0 main_v8
  let main_c_2 : IVec S_ 32 := constantI S_ 32 72#32
  let main_v10 : IVec S96x25x25 32 := broadcastInDim S96x25x25 ![] bcast_S_S96x25x25 main_c_2
  let main_v11 : IVec S96x25x25 1 := cmpi .slt main_v0 main_v10
  let main_v12 : IVec S96x25x25 1 := andi main_v9 main_v11
  let main_c_3 : IVec S_ 32 := constantI S_ 32 48#32
  let main_v13 : IVec S96x25x25 32 := broadcastInDim S96x25x25 ![] bcast_S_S96x25x25 main_c_3
  let main_v14 : IVec S96x25x25 1 := cmpi .sge main_v0 main_v13
  let main_c_4 : IVec S_ 32 := constantI S_ 32 56#32
  let main_v15 : IVec S96x25x25 32 := broadcastInDim S96x25x25 ![] bcast_S_S96x25x25 main_c_4
  let main_v16 : IVec S96x25x25 1 := cmpi .slt main_v0 main_v15
  let main_v17 : IVec S96x25x25 1 := andi main_v14 main_v16
  fn_part1 (F := F) main_arg0 main_arg1 main_v0 main_v1 main_v2 main_v7 main_v12 main_v17
-- ==== Kernel.lean ====
abbrev S128x55x55x96 : Shape := ⟨4, ![128, 55, 55, 96]⟩
abbrev S96x25x25 : Shape := ⟨3, ![96, 25, 25]⟩
abbrev S128 : Shape := ⟨1, ![128]⟩
abbrev S55x55x96x128 : Shape := ⟨4, ![55, 55, 96, 128]⟩
abbrev S_ : Shape := ⟨0, ![]⟩
abbrev S128x1 : Shape := ⟨2, ![128, 1]⟩
abbrev S128x3 : Shape := ⟨2, ![128, 3]⟩
abbrev S16x8 : Shape := ⟨2, ![16, 8]⟩
abbrev S16x8x1 : Shape := ⟨3, ![16, 8, 1]⟩
abbrev S16x8x128 : Shape := ⟨3, ![16, 8, 128]⟩
abbrev S11x55x8x128 : Shape := ⟨4, ![11, 55, 8, 128]⟩
abbrev S2x79x79x8x128 : Shape := ⟨5, ![2, 79, 79, 8, 128]⟩
abbrev S2 : Shape := ⟨1, ![2]⟩
abbrev S1x1x79x8x128 : Shape := ⟨5, ![1, 1, 79, 8, 128]⟩
abbrev S1 : Shape := ⟨1, ![1]⟩
abbrev S1x55x55x8x128 : Shape := ⟨5, ![1, 55, 55, 8, 128]⟩
abbrev S55x55x8x128 : Shape := ⟨4, ![55, 55, 8, 128]⟩
abbrev S1x11x79x8x128 : Shape := ⟨5, ![1, 11, 79, 8, 128]⟩
abbrev S11x79x8x128 : Shape := ⟨4, ![11, 79, 8, 128]⟩
abbrev S1x35x55x8x128 : Shape := ⟨5, ![1, 35, 55, 8, 128]⟩
abbrev S35x55x8x128 : Shape := ⟨4, ![35, 55, 8, 128]⟩
abbrev S1x8x128 : Shape := ⟨3, ![1, 8, 128]⟩
abbrev S1x1x8x128 : Shape := ⟨4, ![1, 1, 8, 128]⟩
abbrev S1x35x79x8x128 : Shape := ⟨5, ![1, 35, 79, 8, 128]⟩
abbrev S35x79x8x128 : Shape := ⟨4, ![35, 79, 8, 128]⟩
abbrev S1x11x55x8x128 : Shape := ⟨5, ![1, 11, 55, 8, 128]⟩

abbrev nBuf : Space → Nat
  | .hbm => 37
  | .vmem => 4
  | .smem => 0
  | _ => 0

abbrev bufTy : (tb : Table) → Fin (tcTables nBuf tb) → BufTy
  | .hbm, ⟨0, _⟩ => ⟨S128x55x55x96, .f32⟩
  | .hbm, ⟨1, _⟩ => ⟨S96x25x25, .f32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S55x55x96x128, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S128x3, .i32⟩
  | .hbm, ⟨31, _⟩ => ⟨S128, .f32⟩
  | .hbm, ⟨32, _⟩ => ⟨S16x8, .f32⟩
  | .hbm, ⟨33, _⟩ => ⟨S16x8x1, .f32⟩
  | .hbm, ⟨34, _⟩ => ⟨S16x8x128, .f32⟩
  | .hbm, ⟨35, _⟩ => ⟨S55x55x96x128, .f32⟩
  | .hbm, ⟨36, _⟩ => ⟨S128x55x55x96, .f32⟩
  | .local _ .vmem, ⟨0, _⟩ => ⟨S16x8x128, .f32⟩
  | .local _ .vmem, ⟨1, _⟩ => ⟨S11x55x8x128, .f32⟩
  | .local _ .vmem, ⟨2, _⟩ => ⟨S11x55x8x128, .f32⟩
  | .local _ .vmem, ⟨3, _⟩ => ⟨S2x79x79x8x128, .f32⟩
  | _, _ => ⟨S128x55x55x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_c_5 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_6 : Ref sig .tc := ⟨.hbm, 20, rfl⟩
abbrev main_v11 : Ref sig .tc := ⟨.hbm, 21, rfl⟩
abbrev main_v12 : Ref sig .tc := ⟨.hbm, 22, rfl⟩
abbrev main_c_7 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![12, 5], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_15 : BitVec 32 := 0#32
  let c158_i32 : BitVec 32 := 158#32
  let v36 : BitVec 32 := Scalar.addi c0_i32_15 c158_i32
  let c1_i32 : BitVec 32 := 1#32
  ⟨c0_i32_15, v36, c1_i32⟩
def k0_off1 (k0_t1 : Fin k0_t1_loop.trips) : Fin 5 → Nat :=
  let c0_i32_15 : BitVec 32 := 0#32
  let c1_i32 : BitVec 32 := 1#32
  let arg7 : BitVec 32 := Scf.iv c0_i32_15 c1_i32 k0_t1
  let c2_i32_27 : BitVec 32 := 2#32
  let v46 : BitVec 32 := Scalar.remsi arg7 c2_i32_27
  let v48 : Index := Scalar.indexCast v46
  let c2_i32_28 : BitVec 32 := 2#32
  let v47 : BitVec 32 := Scalar.divsi arg7 c2_i32_28
  let v49 : Index := Scalar.indexCast v47
  let c0 : Index := 0#32
  let c0_29 : Index := 0#32
  let c0_30 : Index := 0#32
  ![v48.toNat, v49.toNat, 0, 0, 0]
def k0_off2 : Fin 1 → Nat :=
  let c0_i32_17 : BitVec 32 := 0#32
  let c2_i32_18 : BitVec 32 := 2#32
  let v37 : BitVec 32 := Scalar.remsi c0_i32_17 c2_i32_18
  ![v37.toNat]
def k0_off3 : Fin 5 → Nat :=
  let c0_i32_17 : BitVec 32 := 0#32
  let c2_i32_18 : BitVec 32 := 2#32
  let v37 : BitVec 32 := Scalar.remsi c0_i32_17 c2_i32_18
  let c12_i32 : BitVec 32 := 12#32
  let c12_i32_21 : BitVec 32 := 12#32
  let c0_i32_22 : BitVec 32 := 0#32
  let c0_i32_23 : BitVec 32 := 0#32
  ![v37.toNat, 12, 12, 0, 0]
def k0_off4 : Fin 4 → Nat :=
  let c0_i32_24 : BitVec 32 := 0#32
  let c0_i32_25 : BitVec 32 := 0#32
  let true_19 : BitVec 1 := 1#1
  let c0_i32_20 : BitVec 32 := 0#32
  let c_m11_i32 : BitVec 32 := 4294967285#32
  let v38 : BitVec 32 := Scalar.select true_19 c0_i32_20 c_m11_i32
  let c8_i32 : BitVec 32 := 8#32
  let v39 : BitVec 32 := Scalar.muli v38 c8_i32
  let c0_i32_26 : BitVec 32 := 0#32
  ![0, 0, v39.toNat, 0]
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def k0_off5 (i : grid0.Coords) : Fin 1 → Nat :=
  let arg0 : BitVec 32 := BitVec.ofNat 32 (i 0).val
  let c2_i32_15 : BitVec 32 := 2#32
  let v36 : BitVec 32 := Scalar.remsi arg0 c2_i32_15
  ![v36.toNat]
def k0_off6 (i : grid0.Coords) : Fin 5 → Nat :=
  let arg0 : BitVec 32 := BitVec.ofNat 32 (i 0).val
  let c2_i32_15 : BitVec 32 := 2#32
  let v36 : BitVec 32 := Scalar.remsi arg0 c2_i32_15
  let c12_i32 : BitVec 32 := 12#32
  let c12_i32_20 : BitVec 32 := 12#32
  let c0_i32_21 : BitVec 32 := 0#32
  let c0_i32_22 : BitVec 32 := 0#32
  ![v36.toNat, 12, 12, 0, 0]
def k0_off7 (i : grid0.Coords) : Fin 4 → Nat :=
  let c0_i32_23 : BitVec 32 := 0#32
  let c0_i32_24 : BitVec 32 := 0#32
  let arg0 : BitVec 32 := BitVec.ofNat 32 (i 0).val
  let c6_i32_16 : BitVec 32 := 6#32
  let v37 : BitVec 1 := Scalar.cmpi .slt arg0 c6_i32_16
  let c2_i32_17 : BitVec 32 := 2#32
  let v38 : BitVec 32 := Scalar.muli c2_i32_17 arg0
  let c2_i32_18 : BitVec 32 := 2#32
  let v39 : BitVec 32 := Scalar.muli c2_i32_18 arg0
  let c11_i32_19 : BitVec 32 := 11#32
  let v40 : BitVec 32 := Scalar.subi v39 c11_i32_19
  let v41 : BitVec 32 := Scalar.select v37 v38 v40
  let c8_i32 : BitVec 32 := 8#32
  let v42 : BitVec 32 := Scalar.muli v41 c8_i32
  let c0_i32_25 : BitVec 32 := 0#32
  ![0, 0, v42.toNat, 0]
def k0_cond3 (i : grid0.Coords) : BitVec 1 :=
  let arg0 : BitVec 32 := BitVec.ofNat 32 (i 0).val
  let c1_i32 : BitVec 32 := 1#32
  let v48 : BitVec 32 := Scalar.addi arg0 c1_i32
  let c12_i32_26 : BitVec 32 := 12#32
  let v49 : BitVec 1 := Scalar.cmpi .slt v48 c12_i32_26
  let v50 : BitVec 32 := Scalar.extui v49
  let c0_i32_27 : BitVec 32 := 0#32
  let v51 : BitVec 1 := Scalar.cmpi .ne v50 c0_i32_27
  v51

def k0_off8 (i : grid0.Coords) : Fin 1 → Nat :=
  let arg0 : BitVec 32 := BitVec.ofNat 32 (i 0).val
  let c1_i32_28 : BitVec 32 := 1#32
  let v52 : BitVec 32 := Scalar.addi arg0 c1_i32_28
  let c2_i32_29 : BitVec 32 := 2#32
  let v53 : BitVec 32 := Scalar.remsi v52 c2_i32_29
  ![v53.toNat]
def k0_off9 (i : grid0.Coords) : Fin 5 → Nat :=
  let arg0 : BitVec 32 := BitVec.ofNat 32 (i 0).val
  let c1_i32_28 : BitVec 32 := 1#32
  let v52 : BitVec 32 := Scalar.addi arg0 c1_i32_28
  let c2_i32_29 : BitVec 32 := 2#32
  let v53 : BitVec 32 := Scalar.remsi v52 c2_i32_29
  let c12_i32_35 : BitVec 32 := 12#32
  let c12_i32_36 : BitVec 32 := 12#32
  let c0_i32_37 : BitVec 32 := 0#32
  let c0_i32_38 : BitVec 32 := 0#32
  ![v53.toNat, 12, 12, 0, 0]
def k0_off10 (i : grid0.Coords) : Fin 4 → Nat :=
  let c0_i32_39 : BitVec 32 := 0#32
  let c0_i32_40 : BitVec 32 := 0#32
  let arg0 : BitVec 32 := BitVec.ofNat 32 (i 0).val
  let c1_i32_28 : BitVec 32 := 1#32
  let v52 : BitVec 32 := Scalar.addi arg0 c1_i32_28
  let c6_i32_30 : BitVec 32 := 6#32
  let v54 : BitVec 1 := Scalar.cmpi .slt v52 c6_i32_30
  let c2_i32_31 : BitVec 32 := 2#32
  let v55 : BitVec 32 := Scalar.muli c2_i32_31 v52
  let c2_i32_32 : BitVec 32 := 2#32
  let v56 : BitVec 32 := Scalar.muli c2_i32_32 v52
  let c11_i32_33 : BitVec 32 := 11#32
  let v57 : BitVec 32 := Scalar.subi v56 c11_i32_33
  let v58 : BitVec 32 := Scalar.select v54 v55 v57
  let c8_i32_34 : BitVec 32 := 8#32
  let v59 : BitVec 32 := Scalar.muli v58 c8_i32_34
  let c0_i32_41 : BitVec 32 := 0#32
  ![0, 0, v59.toNat, 0]
def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let c6_i32 : BitVec 32 := 6#32
  let v11 : BitVec 1 := Scalar.cmpi .eq arg0 c6_i32
  let v12 : BitVec 1 := Scalar.ori v10 v11
  let v13 : BitVec 32 := Scalar.extui v12
  let c0_i32_5 : BitVec 32 := 0#32
  let v14 : BitVec 1 := Scalar.cmpi .ne v13 c0_i32_5
  v14

def k0_off11 (i : grid0.Coords) : Fin 5 → Nat :=
  let arg0 : BitVec 32 := BitVec.ofNat 32 (i 0).val
  let c2_i32 : BitVec 32 := 2#32
  let v1 : BitVec 32 := Scalar.remsi arg0 c2_i32
  let v37 : Index := Scalar.indexCast v1
  let arg1 : BitVec 32 := BitVec.ofNat 32 (i 1).val
  let c11_i32 : BitVec 32 := 11#32
  let v0 : BitVec 32 := Scalar.muli arg1 c11_i32
  let c12_i32 : BitVec 32 := 12#32
  let v36 : BitVec 32 := Scalar.addi v0 c12_i32
  let v38 : Index := Scalar.indexCast v36
  let c0 : Index := 0#32
  let c0_15 : Index := 0#32
  let c0_16 : Index := 0#32
  ![v37.toNat, v38.toNat, 0, 0, 0]
def k0_off12 (i : grid0.Coords) : Fin 5 → Nat :=
  let arg0 : BitVec 32 := BitVec.ofNat 32 (i 0).val
  let c2_i32 : BitVec 32 := 2#32
  let v1 : BitVec 32 := Scalar.remsi arg0 c2_i32
  let v56 : Index := Scalar.indexCast v1
  let arg1 : BitVec 32 := BitVec.ofNat 32 (i 1).val
  let c11_i32 : BitVec 32 := 11#32
  let v0 : BitVec 32 := Scalar.muli arg1 c11_i32
  let v57 : Index := Scalar.indexCast v0
  let c12 : Index := 12#32
  let c0_17 : Index := 0#32
  let c0_18 : Index := 0#32
  ![v56.toNat, v57.toNat, 12, 0, 0]
def k0_off13 (i : grid0.Coords) : Fin 3 → Nat :=
  let arg0 : BitVec 32 := BitVec.ofNat 32 (i 0).val
  let c0_i32_19 : BitVec 32 := 0#32
  let v75 : BitVec 1 := Scalar.cmpi .eq arg0 c0_i32_19
  let c0_i32_20 : BitVec 32 := 0#32
  let c3_i32_21 : BitVec 32 := 3#32
  let v76 : BitVec 32 := Scalar.select v75 c0_i32_20 c3_i32_21
  let v79 : Index := Scalar.indexCast v76
  let c0_22 : Index := 0#32
  let c0_23 : Index := 0#32
  ![v79.toNat, 0, 0]
def k0_cond5 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_6 : BitVec 32 := 0#32
  let v17 : BitVec 1 := Scalar.cmpi .ne v16 c0_i32_6
  v17

def k0_off14 (i : grid0.Coords) : Fin 5 → Nat :=
  let arg0 : BitVec 32 := BitVec.ofNat 32 (i 0).val
  let c2_i32 : BitVec 32 := 2#32
  let v1 : BitVec 32 := Scalar.remsi arg0 c2_i32
  let v36 : Index := Scalar.indexCast v1
  let arg1 : BitVec 32 := BitVec.ofNat 32 (i 1).val
  let c11_i32 : BitVec 32 := 11#32
  let v0 : BitVec 32 := Scalar.muli arg1 c11_i32
  let v37 : Index := Scalar.indexCast v0
  let c0 : Index := 0#32
  let c0_15 : Index := 0#32
  let c0_16 : Index := 0#32
  ![v36.toNat, v37.toNat, 0, 0, 0]
def k0_cond6 (i : grid0.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_7 : BitVec 32 := 0#32
  let v20 : BitVec 1 := Scalar.cmpi .ne v19 c0_i32_7
  v20

def k0_off15 (i : grid0.Coords) : Fin 5 → Nat :=
  let arg0 : BitVec 32 := BitVec.ofNat 32 (i 0).val
  let c2_i32 : BitVec 32 := 2#32
  let v1 : BitVec 32 := Scalar.remsi arg0 c2_i32
  let v36 : Index := Scalar.indexCast v1
  let arg1 : BitVec 32 := BitVec.ofNat 32 (i 1).val
  let c11_i32 : BitVec 32 := 11#32
  let v0 : BitVec 32 := Scalar.muli arg1 c11_i32
  let v37 : Index := Scalar.indexCast v0
  let c0 : Index := 0#32
  let c0_15 : Index := 0#32
  let c0_16 : Index := 0#32
  ![v36.toNat, v37.toNat, 0, 0, 0]
def k0_cond7 (i : grid0.Coords) : BitVec 1 :=
  let arg0 : BitVec 32 := BitVec.ofNat 32 (i 0).val
  let c10_i32 : BitVec 32 := 10#32
  let v21 : BitVec 1 := Scalar.cmpi .eq arg0 c10_i32
  let v22 : BitVec 32 := Scalar.extui v21
  let c0_i32_8 : BitVec 32 := 0#32
  let v23 : BitVec 1 := Scalar.cmpi .ne v22 c0_i32_8
  v23

def k0_off16 (i : grid0.Coords) : Fin 5 → Nat :=
  let arg0 : BitVec 32 := BitVec.ofNat 32 (i 0).val
  let c2_i32 : BitVec 32 := 2#32
  let v1 : BitVec 32 := Scalar.remsi arg0 c2_i32
  let v36 : Index := Scalar.indexCast v1
  let arg1 : BitVec 32 := BitVec.ofNat 32 (i 1).val
  let c11_i32 : BitVec 32 := 11#32
  let v0 : BitVec 32 := Scalar.muli arg1 c11_i32
  let v37 : Index := Scalar.indexCast v0
  let c0 : Index := 0#32
  let c0_15 : Index := 0#32
  let c0_16 : Index := 0#32
  ![v36.toNat, v37.toNat, 0, 0, 0]
def k0_cond8 (i : grid0.Coords) : BitVec 1 :=
  let arg0 : BitVec 32 := BitVec.ofNat 32 (i 0).val
  let c0_i32_9 : BitVec 32 := 0#32
  let v24 : BitVec 1 := Scalar.cmpi .eq arg0 c0_i32_9
  let c6_i32_10 : BitVec 32 := 6#32
  let v25 : BitVec 1 := Scalar.cmpi .eq arg0 c6_i32_10
  let v26 : BitVec 1 := Scalar.ori v24 v25
  let c3_i32_11 : BitVec 32 := 3#32
  let v27 : BitVec 1 := Scalar.cmpi .eq arg0 c3_i32_11
  let v28 : BitVec 1 := Scalar.ori v26 v27
  let c4_i32_12 : BitVec 32 := 4#32
  let v29 : BitVec 1 := Scalar.cmpi .eq arg0 c4_i32_12
  let v30 : BitVec 1 := Scalar.ori v28 v29
  let c10_i32_13 : BitVec 32 := 10#32
  let v31 : BitVec 1 := Scalar.cmpi .eq arg0 c10_i32_13
  let v32 : BitVec 1 := Scalar.ori v30 v31
  let v_true : BitVec 1 := 1#1
  let v33 : BitVec 1 := Scalar.xori v32 v_true
  let v34 : BitVec 32 := Scalar.extui v33
  let c0_i32_14 : BitVec 32 := 0#32
  let v35 : BitVec 1 := Scalar.cmpi .ne v34 c0_i32_14
  v35

def k0_off17 (i : grid0.Coords) : Fin 5 → Nat :=
  let arg0 : BitVec 32 := BitVec.ofNat 32 (i 0).val
  let c2_i32 : BitVec 32 := 2#32
  let v1 : BitVec 32 := Scalar.remsi arg0 c2_i32
  let v37 : Index := Scalar.indexCast v1
  let arg1 : BitVec 32 := BitVec.ofNat 32 (i 1).val
  let c11_i32 : BitVec 32 := 11#32
  let v0 : BitVec 32 := Scalar.muli arg1 c11_i32
  let c12_i32 : BitVec 32 := 12#32
  let v36 : BitVec 32 := Scalar.addi v0 c12_i32
  let v38 : Index := Scalar.indexCast v36
  let c12 : Index := 12#32
  let c0 : Index := 0#32
  let c0_15 : Index := 0#32
  ![v37.toNat, v38.toNat, 12, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c2_i32 : BitVec 32 := 2#32
  let v1 : BitVec 32 := Scalar.muli c2_i32 arg0
  let c2_i32_0 : BitVec 32 := 2#32
  let v2 : BitVec 32 := Scalar.muli c2_i32_0 arg0
  let c11_i32 : BitVec 32 := 11#32
  let v3 : BitVec 32 := Scalar.subi v2 c11_i32
  let v4 : BitVec 32 := Scalar.select v0 v1 v3
  let c0_i32 : BitVec 32 := 0#32
  let c0_i32_1 : BitVec 32 := 0#32
  let c0_i32_2 : BitVec 32 := 0#32
  ![arg1.toNat, c0_i32.toNat, v4.toNat, c0_i32_1.toNat]

abbrev stage0_0 : Fin 1 → Memref sig .tc .vmem S16x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S11x55x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S128x55x55x96 : Shape := ⟨4, ![128, 55, 55, 96]⟩
abbrev S96x25x25 : Shape := ⟨3, ![96, 25, 25]⟩
abbrev S_ : Shape := ⟨0, ![]⟩
abbrev S128x79x79x96 : Shape := ⟨4, ![128, 79, 79, 96]⟩
abbrev S55 : Shape := ⟨1, ![55]⟩
abbrev S55x1 : Shape := ⟨2, ![55, 1]⟩
abbrev S25 : Shape := ⟨1, ![25]⟩
abbrev S1x25 : Shape := ⟨2, ![1, 25]⟩
abbrev S55x25 : Shape := ⟨2, ![55, 25]⟩
abbrev S55x25x1 : Shape := ⟨3, ![55, 25, 1]⟩
abbrev S128x55x25x79x96 : Shape := ⟨5, ![128, 55, 25, 79, 96]⟩
abbrev S128x55x25x55x25x96 : Shape := ⟨6, ![128, 55, 25, 55, 25, 96]⟩
abbrev S25x25x96 : Shape := ⟨3, ![25, 25, 96]⟩
abbrev S1x1x25x1x25x96 : Shape := ⟨6, ![1, 1, 25, 1, 25, 96]⟩

abbrev nBuf : Space → Nat
  | .hbm => 37
  | .vmem => 0
  | .smem => 0
  | _ => 0

abbrev bufTy : (tb : Table) → Fin (tcTables nBuf tb) → BufTy
  | .hbm, ⟨0, _⟩ => ⟨S128x55x55x96, .f32⟩
  | .hbm, ⟨1, _⟩ => ⟨S96x25x25, .f32⟩
  | .hbm, ⟨2, _⟩ => ⟨S_, .i32⟩
  | .hbm, ⟨3, _⟩ => ⟨S_, .f32⟩
  | .hbm, ⟨4, _⟩ => ⟨S128x79x79x96, .f32⟩
  | .hbm, ⟨5, _⟩ => ⟨S55, .i32⟩
  | .hbm, ⟨6, _⟩ => ⟨S55x1, .i32⟩
  | .hbm, ⟨7, _⟩ => ⟨S25, .i32⟩
  | .hbm, ⟨8, _⟩ => ⟨S1x25, .i32⟩
  | .hbm, ⟨9, _⟩ => ⟨S55x25, .i32⟩
  | .hbm, ⟨10, _⟩ => ⟨S55x25, .i32⟩
  | .hbm, ⟨11, _⟩ => ⟨S55x25, .i32⟩
  | .hbm, ⟨12, _⟩ => ⟨S_, .i32⟩
  | .hbm, ⟨13, _⟩ => ⟨S55x25, .i32⟩
  | .hbm, ⟨14, _⟩ => ⟨S55x25, .i1⟩
  | .hbm, ⟨15, _⟩ => ⟨S_, .i32⟩
  | .hbm, ⟨16, _⟩ => ⟨S55x25, .i32⟩
  | .hbm, ⟨17, _⟩ => ⟨S55x25, .i32⟩
  | .hbm, ⟨18, _⟩ => ⟨S55x25, .i32⟩
  | .hbm, ⟨19, _⟩ => ⟨S55x25x1, .i32⟩
  | .hbm, ⟨20, _⟩ => ⟨S128x55x25x79x96, .f32⟩
  | .hbm, ⟨21, _⟩ => ⟨S_, .i32⟩
  | .hbm, ⟨22, _⟩ => ⟨S55x25, .i32⟩
  | .hbm, ⟨23, _⟩ => ⟨S55x25, .i1⟩
  | .hbm, ⟨24, _⟩ => ⟨S_, .i32⟩
  | .hbm, ⟨25, _⟩ => ⟨S55x25, .i32⟩
  | .hbm, ⟨26, _⟩ => ⟨S55x25, .i32⟩
  | .hbm, ⟨27, _⟩ => ⟨S55x25, .i32⟩
  | .hbm, ⟨28, _⟩ => ⟨S55x25x1, .i32⟩
  | .hbm, ⟨29, _⟩ => ⟨S128x55x25x55x25x96, .f32⟩
  | .hbm, ⟨30, _⟩ => ⟨S25x25x96, .f32⟩
  | .hbm, ⟨31, _⟩ => ⟨S1x1x25x1x25x96, .f32⟩
  | .hbm, ⟨32, _⟩ => ⟨S128x55x25x55x25x96, .f32⟩
  | .hbm, ⟨33, _⟩ => ⟨S128x55x25x55x25x96, .f32⟩
  | .hbm, ⟨34, _⟩ => ⟨S_, .f32⟩
  | .hbm, ⟨35, _⟩ => ⟨S128x55x55x96, .f32⟩
  | .hbm, ⟨36, _⟩ => ⟨S128x55x55x96, .f32⟩
  | _, _ => ⟨S128x55x55x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.PI.Slots.lean ====
module

public import proofs.«01_k».proof.Proof.Gen.KernelIdeal.Frame
public import proofs.«01_k».proof.Proof.Gen.KernelIdeal.Loops
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)
open Cert.KernelIdeal.Gen

variable {F : FTy → Type} [FloatOps F]

local notation "𝕄" => MT nD τ sig Unit (Elt F) ℕ (UD sig nD τ) ℕ

theorem pbWin_inb (s : Fin 2) : ∀ a, (![s.val, 12, 12, 0, 0] : Fin 5 → ℕ) a + S1x55x55x8x128.size a ≤ S2x79x79x8x128.size a := by
  revert s; decide

theorem srcBlk_inb (k : Fin 12) : ∀ a, (![0, 0, 8 * k.val, 0] : Fin 4 → ℕ) a + S55x55x8x128.size a ≤ S55x55x96x128.size a := by
  revert k; decide

theorem cell_inb (s : Fin 2) : ∀ a, (![s.val] : Fin 1 → ℕ) a + S1.size a ≤ S2.size a := by
  revert s; decide

/-- The interior window of slot `s` of the padded scratch. -/
abbrev pbWin (s : Fin 2) : Memref sig .tc .vmem S55x55x8x128 .f32 :=
  ((Memref.whole cc0_scratch0).slice (Rect.unit (s := S2x79x79x8x128) ![s.val, 12, 12, 0, 0] S1x55x55x8x128.size (pbWin_inb s)) (fun _ => rfl)).squeeze
    S55x55x8x128 squeezes_S1x55x55x8x128_S55x55x8x128

/-- The block of channels `8k … 8k + 7` of the transposed input. -/
abbrev srcBlk (k : Fin 12) : Memref sig .tc .hbm S55x55x8x128 .f32 :=
  (Memref.whole main_v0).slice (Rect.unit (s := S55x55x96x128) ![0, 0, 8 * k.val, 0] S55x55x8x128.size (srcBlk_inb k)) (fun _ => rfl)

/-- The DMA semaphore of slot `s`. -/
abbrev cell (s : Fin 2) : DmaSem sig :=
  ((cc0_scratch1.slice (Rect.unit (s := S2) ![s.val] S1.size (cell_inb s))).squeeze S_ squeezes_S1_S_).sem

abbrev osem0 (s : Fin 2) : SemLoc sig := .dma (cell s)

theorem ownSemFacts : Pipeline.OwnSemFacts spec0 osem0 := by decide

abbrev H0 : Finset (Ref sig .tc) := {main_v0}
theorem H0_sub : H0 ⊆ Pipeline.restRefs sig spec0 := by decide

abbrev Pb (F : FTy → Type) := S2x79x79x8x128.Idx → Elt F .f32
abbrev Xt (F : FTy → Type) := S55x55x96x128.Idx → Elt F .f32

/-- The scratch after the block `k` of `v` has landed in slot `s` of a scratch that held `f`. -/
def landed (s : Fin 2) (k : Fin 12) (v : Xt F) (f : Pb F) : Pb F :=
  (pbWin s).view.write (Elt F) f ((srcBlk k).view.read (Elt F) v) Finset.univ

/-- The elements of the scratch outside slot `s`'s interior window. -/
abbrev offWin (s : Fin 2) : Finset S2x79x79x8x128.Idx := Finset.univ \ (pbWin s).view.set

def Flying (c : Dev nD) (s : Fin 2) (k : Fin 12) (v : Xt F) (f : Pb F) : sProp 𝕄 :=
  iprop(Transfers.Flight (countersEmb (U := UD sig nD τ)) (c : Thread nD τ) (.dma (cell s)) () ((pbWin s).view.amount (.dma (cell s)))
      iprop(((c : Thread nD τ).loc cc0_scratch0 ↦[(pbWin s).view.set]{fullShare} landed s k v f)
        ∗ ((c : Thread nD τ).loc main_v0 ↦[(srcBlk k).view.set]{fullShare} v))
    ∗ ((c : Thread nD τ).loc cc0_scratch0 ↦[offWin s]{fullShare} f)
    ∗ ((c : Thread nD τ).loc main_v0 ↦[Finset.univ \ (srcBlk k).view.set]{fullShare} v))

theorem amount_pos (s : Fin 2) : 0 < (pbWin s).view.amount (.dma (cell s)) := by revert s; decide

variable (c : Dev nD)

theorem wp_issue (s : Fin 2) (k : Fin 12) (v : Xt F) (f : Pb F) {α : Type} (K : PUnit → Prog (TpuEff nD τ sig (Elt F) Λ₀ .tc) α) (Q : α → sProp 𝕄)
    {h1 h2 h3} :
    iprop(((c : Thread nD τ).loc cc0_scratch0 ↦{fullShare} f) ∗ ((c : Thread nD τ).loc main_v0 ↦{fullShare} v) ∗ semVal ((c : Thread nD τ), .dma (cell s)) 0
        ∗ (Flying c s k v f -∗ wp frame (wpE (defs₀ (F := F)) Variants.none c none) Set.univ (K ⟨⟩) Q))
      ⊢ wp frame (wpE (defs₀ (F := F)) Variants.none c none) Set.univ
          (Prog.lift (.enqueueDma (srcBlk k) (.here (pbWin s)) (.dma (cell s)) h1 h2 h3) >>= K) Q := by
  iintro ⟨Hp, Hx, Hs, HK⟩
  ihave Hp := (pointsTo_split_subset (Finset.subset_univ (pbWin s).view.set)).1 $$ Hp
  icases Hp with ⟨Hp, Hpr⟩
  ihave Hx := (pointsTo_split_subset (Finset.subset_univ (srcBlk k).view.set)).1 $$ Hx
  icases Hx with ⟨Hx, Hxr⟩
  iapply (Transfers.wp_dmaLocal (countersEmb (U := UD sig nD τ)) Variants.none (c : Thread nD τ) none (src := srcBlk k) (dst := pbWin s) (sm := .dma (cell s)) (Sd := (pbWin s).view.set) () _ rfl (amount_pos s) subset_rfl) $$ [Hp Hx Hs]
  · isplitl [Hx]; · iexact Hx
    isplitl [Hp]; · iexact Hp
    iexact Hs
  iintro HF
  iapply HK
  unfold Flying
  isplitl [HF]; · iexact HF
  isplitl [Hpr]; · iexact Hpr
  iexact Hxr

theorem landed_off (s : Fin 2) (k : Fin 12) (v : Xt F) (f : Pb F) (i : S2x79x79x8x128.Idx) (hi : i ∈ offWin s) : landed s k v f i = f i :=
  View.write_of_not_mem (v := (pbWin s).view) f _ Finset.univ fun hm =>
    (Finset.mem_sdiff.mp hi).2 (by rwa [View.setOn_univ] at hm)

theorem wp_wait (s : Fin 2) (k : Fin 12) (v : Xt F) (f : Pb F) (W : Waits sig Unit) {α : Type} (K : PUnit → Prog (TpuEff nD τ sig (Elt F) Λ₀ .tc) α) (Q : α → sProp 𝕄)
    {h1 h2} :
    iprop(Flying c s k v f ∗ owes (c : Thread nD τ) 0 W
        ∗ ((((c : Thread nD τ).loc cc0_scratch0 ↦{fullShare} landed s k v f) ∗ ((c : Thread nD τ).loc main_v0 ↦{fullShare} v) ∗ semVal ((c : Thread nD τ), .dma (cell s)) 0
            ∗ owes (c : Thread nD τ) 0 (insert (SemLoc.dma (cell s), ()) W)) -∗ wp frame (wpE (defs₀ (F := F)) Variants.none c none) Set.univ (K ⟨⟩) Q))
      ⊢ wp frame (wpE (defs₀ (F := F)) Variants.none c none) Set.univ
          (Prog.lift (.waitDma2 (cell s) (srcBlk k) (pbWin s) h1 h2) >>= K) Q := by
  unfold Flying
  iintro ⟨⟨HF, Hpr, Hxr⟩, HO, HK⟩
  iapply (Transfers.wp_waitLocal (countersEmb (U := UD sig nD τ)) Variants.none (c : Thread nD τ) none (sem := cell s) (srcw := srcBlk k) (dstw := pbWin s) () rfl) $$ [HF HO]
  · isplitl [HF]; · iexact HF
    iexact HO
  iintro ⟨⟨Hp, Hx⟩, Hs, HO⟩
  iapply HK
  isplitl [Hp Hpr]
  · iapply (pointsTo_split_subset (Finset.subset_univ (pbWin s).view.set)).2
    isplitl [Hp]; · iexact Hp
    iapply (Entails.of_eq (pointsTo_congr fun i hi => (landed_off s k v f i hi).symm)) $$ Hpr
  isplitl [Hx Hxr]
  · iapply (pointsTo_split_subset (Finset.subset_univ (srcBlk k).view.set)).2
    isplitl [Hx]; · iexact Hx
    iexact Hxr
  isplitl [Hs]; · iexact Hs
  iexact HO

end Cert.KernelIdeal.Hand
end
-- ==== Proof.PI.Zero.lean ====
module

public import proofs.«01_k».proof.Proof.PI.Slots

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F]

local notation "𝕄" => MT nD τ sig Unit (Elt F) ℕ (UD sig nD τ) ℕ

/-- The float zero the kernel fills its padded scratch with. -/
abbrev zeroF (F : FTy → Type) [FloatOps F] : Elt F .f32 := (Scalar.ofBits .f32 0x00000000#32 : F .f32)

/-- The rectangle trip `k` of the zero fill stores: row `k / 2` of slot `k % 2`. -/
abbrev zrect (i : grid0.Coords) (h : k0_cond1 i = 1#1) (k : Fin k0_t1_loop.trips) : Rect S2x79x79x8x128 :=
  Rect.unit (s := S2x79x79x8x128) (k0_off1 k) S1x1x79x8x128.size (k0_off1_inb i k h)

theorem mem_zrect (i : grid0.Coords) (h : k0_cond1 i = 1#1) (k : Fin k0_t1_loop.trips) (j : S2x79x79x8x128.Idx) (hj : 2 * (j 1).val + (j 0).val = k.val) :
    j ∈ (zrect i h k).set := by
  rw [Rect.mem_set_unit]
  rw [k0_off1_eq]
  have h0 : (j 0).val < 2 := (j 0).isLt
  have h1 : (j 1).val < 79 := (j 1).isLt
  have h2 : (j 2).val < 79 := (j 2).isLt
  have h3 : (j 3).val < 8 := (j 3).isLt
  have h4 : (j 4).val < 128 := (j 4).isLt
  intro a
  fin_cases a
  · show k.val % 2 ≤ (j 0).val ∧ (j 0).val < k.val % 2 + 1
    omega
  · show k.val / 2 ≤ (j 1).val ∧ (j 1).val < k.val / 2 + 1
    omega
  · show 0 ≤ (j 2).val ∧ (j 2).val < 0 + 79
    omega
  · show 0 ≤ (j 3).val ∧ (j 3).val < 0 + 8
    omega
  · show 0 ≤ (j 4).val ∧ (j 4).val < 0 + 128
    omega

/-- The first `k` trips' rows hold zero. -/
def ZeroTo (k : ℕ) (f : Pb F) : Prop := ∀ j : S2x79x79x8x128.Idx, 2 * (j 1).val + (j 0).val < k → f j = zeroF F

theorem zeroTo_step (i : grid0.Coords) (h : k0_cond1 i = 1#1) (k : Fin k0_t1_loop.trips) (f : Pb F) (hf : ZeroTo k.val f) :
    ZeroTo (k.val + 1) (((Memref.whole cc0_scratch0).access (zrect i h k)).write (Elt F) f k0_pay12 Finset.univ) := by
  intro j hj
  by_cases hm : j ∈ ((Memref.whole cc0_scratch0).access (zrect i h k)).set
  · obtain ⟨x, -, hx⟩ := Finset.mem_map.mp hm
    rw [← hx, View.write_emb_of_mem _ _ (Finset.mem_univ x)]
    rfl
  · rw [View.write_of_not_mem _ _ _ (by rwa [View.setOn_univ])]
    refine hf j ?_
    by_contra hne
    refine hm ?_
    rw [show ((Memref.whole cc0_scratch0).access (zrect i h k)).set = (zrect i h k).set from View.set_slice_whole _ _]
    exact mem_zrect i h k j (by omega)

variable (c : Dev nD)

/-- One trip of the fill. -/
theorem zero_trip (i : grid0.Coords) (h : k0_cond1 i = 1#1) {a2 ha2 a3 ha3 a4 ha4 ha5 a6} (k : Fin k0_t1_loop.trips) (u : Unit) :
    iprop(∃ f : Pb F, ((c : Thread nD τ).loc cc0_scratch0 ↦{fullShare} f) ∗ ⌜ZeroTo k.val f⌝)
      ⊢ (wp frame (wpE (defs₀ (F := F)) Variants.none c none) Set.univ
          (k0_t1_body (F := F) i a2 ha2 a3 ha3 a4 ha4 (Memref.whole cc0_scratch0) ha5 a6 h k u)
          (fun _ => iprop(∃ f : Pb F, ((c : Thread nD τ).loc cc0_scratch0 ↦{fullShare} f) ∗ ⌜ZeroTo (k.val + 1) f⌝)) : sProp 𝕄) := by
  unfold k0_t1_body
  iintro ⟨%f, Hp, %hf⟩
  iapply (wp_load Variants.none (c : Thread nD τ) none Set.univ (m := Memref.whole cc0_scratch0) (Finset.subset_univ _)) $$ Hp
  iintro Hp
  iapply (wp_store Variants.none (c : Thread nD τ) none Set.univ (m := Memref.whole cc0_scratch0) (r := zrect i h k) (w := k0_pay12 (F := F)) (S := Finset.univ) (f := f) (Finset.subset_univ _)) $$ [Hp]
  · iexact Hp
  iintro Hp
  iapply (le_wp_ret _ _ _ _ _)
  iexists _
  isplitl [Hp]; · iexact Hp
  ipureintro
  exact zeroTo_step i h k f hf

/-- The loop that zeroes the padded scratch. -/
theorem wp_zero (i : grid0.Coords) (h : k0_cond1 i = 1#1) {a2 ha2 a3 ha3 a4 ha4 ha5 a6} (f₀ : Pb F) {α : Type} (K : PUnit → Prog (TpuEff nD τ sig (Elt F) Λ₀ .tc) α)
    (Q : α → sProp 𝕄) :
    iprop(((c : Thread nD τ).loc cc0_scratch0 ↦{fullShare} f₀)
        ∗ (∀ f : Pb F, ⌜∀ j, f j = zeroF F⌝ -∗ ((c : Thread nD τ).loc cc0_scratch0 ↦{fullShare} f) -∗ wp frame (wpE (defs₀ (F := F)) Variants.none c none) Set.univ (K ⟨⟩) Q))
      ⊢ (wp frame (wpE (defs₀ (F := F)) Variants.none c none) Set.univ
          (Scf.Loop.for k0_t1_loop (k0_t1_ok i h) ⟨⟩ (k0_t1_body (F := F) i a2 ha2 a3 ha3 a4 ha4 (Memref.whole cc0_scratch0) ha5 a6 h) >>= K) Q : sProp 𝕄) := by
  iintro ⟨Hp, HK⟩
  iapply (Scf.wp_for_bind frame (wpE (defs₀ (F := F)) Variants.none c none) Set.univ _ _ _ _ _ _
    (fun k (_ : Unit) => iprop(∃ f : Pb F, ((c : Thread nD τ).loc cc0_scratch0 ↦{fullShare} f) ∗ ⌜ZeroTo k f⌝))
    (fun k u => zero_trip c i h k u)) $$ [Hp]
  · iexists f₀
    isplitl [Hp]; · iexact Hp
    ipureintro
    intro j hj; exact absurd hj (Nat.not_lt_zero _)
  iintro %_ ⟨%f, Hp, %hf⟩
  iapply HK $$ [] [Hp]
  · ipureintro
    intro j
    refine hf j ?_
    have h0 : (j 0).val < 2 := (j 0).isLt
    have h1 : (j 1).val < 79 := (j 1).isLt
    have ht : Scf.trips k0_t1_loop.lb k0_t1_loop.ub k0_t1_loop.st = 158 := by decide +kernel
    omega
  · iexact Hp

end Cert.KernelIdeal.Hand
end
-- ==== Proof.PI.Pad.lean ====
module

public import proofs.«01_k».proof.Proof.PI.Zero
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.ValueIdx (ix4)
open Cert.KernelIdeal.Gen

variable {F : FTy → Type} [FloatOps F]

local notation "𝕄" => MT nD τ sig Unit (Elt F) ℕ (UD sig nD τ) ℕ

/-- The scratch slot block `b` of the grid uses. -/
abbrev slotN (b : ℕ) : Fin 2 := ⟨b % 2, Nat.mod_lt _ (by decide)⟩

/-- The channel block that block `b` of the grid works on. -/
abbrev physN (b : ℕ) : Fin 12 := ⟨(if b < 6 then 2 * b else 2 * b - 11) % 12, Nat.mod_lt _ (by decide)⟩

/-- Index `j` lies in the interior window of slot `s`. -/
def InWin (s : Fin 2) (j : S2x79x79x8x128.Idx) : Prop :=
  (j 0).val = s.val ∧ 12 ≤ (j 1).val ∧ (j 1).val < 67 ∧ 12 ≤ (j 2).val ∧ (j 2).val < 67

instance (s : Fin 2) (j : S2x79x79x8x128.Idx) : Decidable (InWin s j) := by unfold InWin; infer_instance

theorem mem_pbWin (s : Fin 2) (j : S2x79x79x8x128.Idx) : j ∈ (pbWin s).view.set ↔ InWin s j := by
  have e : (pbWin s).view.set = (Rect.unit (s := S2x79x79x8x128) ![s.val, 12, 12, 0, 0] S1x55x55x8x128.size (pbWin_inb s)).set :=
    (View.set_reshape _ _).trans (View.set_slice_whole _ _)
  rw [e, Rect.mem_set_unit]
  have h3 : (j 3).val < 8 := (j 3).isLt
  have h4 : (j 4).val < 128 := (j 4).isLt
  constructor
  · intro h
    have a0 : s.val ≤ (j 0).val ∧ (j 0).val < s.val + 1 := h 0
    have a1 : 12 ≤ (j 1).val ∧ (j 1).val < 12 + 55 := h 1
    have a2 : 12 ≤ (j 2).val ∧ (j 2).val < 12 + 55 := h 2
    unfold InWin
    omega
  · rintro ⟨a0, a1, a2, a3, a4⟩ a
    fin_cases a
    · show s.val ≤ (j 0).val ∧ (j 0).val < s.val + 1
      omega
    · show 12 ≤ (j 1).val ∧ (j 1).val < 12 + 55
      omega
    · show 12 ≤ (j 2).val ∧ (j 2).val < 12 + 55
      omega
    · show 0 ≤ (j 3).val ∧ (j 3).val < 0 + 8
      omega
    · show 0 ≤ (j 4).val ∧ (j 4).val < 0 + 128
      omega

/-- The element of the transposed input that index `j` of the interior window holds when it carries channel block `k`. -/
def srcIdx (k : Fin 12) (s : Fin 2) (j : S2x79x79x8x128.Idx) (h : InWin s j) : S55x55x96x128.Idx :=
  ix4 (⟨(j 1).val - 12, by obtain ⟨_, _, _, _, _⟩ := h; omega⟩ : Fin 55) (⟨(j 2).val - 12, by obtain ⟨_, _, _, _, _⟩ := h; omega⟩ : Fin 55)
    (⟨8 * k.val + (j 3).val, by have h3 : (j 3).val < 8 := (j 3).isLt; have := k.isLt; omega⟩ : Fin 96) (⟨(j 4).val, (j 4).isLt⟩ : Fin 128)

/-- What slot `s` holds at `j` once channel block `k` has landed in it: the input inside the window, zero in the margin. -/
def padAt (s : Fin 2) (k : Fin 12) (v : Xt F) (j : S2x79x79x8x128.Idx) : Elt F .f32 :=
  if h : InWin s j then v (srcIdx k s j h) else zeroF F

theorem landed_in (s : Fin 2) (k : Fin 12) (v : Xt F) (f : Pb F) (j : S2x79x79x8x128.Idx) (h : InWin s j) : landed s k v f j = padAt s k v j := by
  obtain ⟨x, -, hx⟩ := Finset.mem_map.mp ((mem_pbWin s j).mpr h)
  rw [padAt, dif_pos h]
  have e1 : landed s k v f j = (srcBlk k).view.read (Elt F) v x := by
    rw [← hx]; unfold landed
    exact View.write_emb_of_mem _ _ (Finset.mem_univ x)
  have e2 : j = (Rect.unit (s := S2x79x79x8x128) ![s.val, 12, 12, 0, 0] S1x55x55x8x128.size (pbWin_inb s)).emb (Fin.cons ⟨0, Nat.one_pos⟩ x) := by
    rw [← hx]
    have e3 : (pbWin s).view.emb x = (Rect.unit (s := S2x79x79x8x128) ![s.val, 12, 12, 0, 0] S1x55x55x8x128.size (pbWin_inb s)).emb
      (Shape.reshapeEquiv squeezes_S1x55x55x8x128_S55x55x8x128.numel_eq x) := rfl
    rw [e3, Shape.reshapeEquiv_cons_one]
  have e4 : (srcBlk k).view.read (Elt F) v x = v ((Rect.unit (s := S55x55x96x128) ![0, 0, 8 * k.val, 0] S55x55x8x128.size (srcBlk_inb k)).emb x) := rfl
  rw [e1, e4]
  congr 1
  have c1 : (j 1).val = 12 + 1 * (x 0).val := by rw [e2, Rect.emb_apply]; rfl
  have c2 : (j 2).val = 12 + 1 * (x 1).val := by rw [e2, Rect.emb_apply]; rfl
  have c3 : (j 3).val = 0 + 1 * (x 2).val := by rw [e2, Rect.emb_apply]; rfl
  have c4 : (j 4).val = 0 + 1 * (x 3).val := by rw [e2, Rect.emb_apply]; rfl
  funext a
  apply Fin.ext
  fin_cases a
  · rw [Rect.emb_apply]
    show 0 + 1 * (x 0).val = (j 1).val - 12
    omega
  · rw [Rect.emb_apply]
    show 0 + 1 * (x 1).val = (j 2).val - 12
    omega
  · rw [Rect.emb_apply]
    show 8 * k.val + 1 * (x 2).val = 8 * k.val + (j 3).val
    omega
  · rw [Rect.emb_apply]
    show 0 + 1 * (x 3).val = (j 4).val
    omega

theorem landed_out (s : Fin 2) (k : Fin 12) (v : Xt F) (f : Pb F) (j : S2x79x79x8x128.Idx) (h : ¬ InWin s j) : landed s k v f j = f j :=
  landed_off s k v f j (Finset.mem_sdiff.mpr ⟨Finset.mem_univ _, fun hm => h ((mem_pbWin s j).mp hm)⟩)

/-- Slot `b % 2` holds block `b` padded by zeros; the other slot's interior window is left unsaid. -/
def Padded (b : ℕ) (v : Xt F) (f : Pb F) : Prop :=
  ∀ j, ¬ InWin (slotN (b + 1)) j → f j = padAt (slotN b) (physN b) v j

/-- Landing the first block in a zeroed scratch. -/
theorem padded_first (v : Xt F) (f : Pb F) (hf : ∀ j, f j = zeroF F) : Padded 0 v (landed 0 0 v f) := by
  intro j hj
  by_cases h : InWin 0 j
  · exact landed_in 0 0 v f j h
  · rw [landed_out _ _ _ _ _ h, hf, padAt]
    rw [dif_neg (show ¬ InWin (slotN 0) j from h)]

/-- Landing block `b + 1` beside block `b`. -/
theorem padded_next (b : ℕ) (v : Xt F) (f : Pb F) (hf : Padded b v f) : Padded (b + 1) v (landed (slotN (b + 1)) (physN (b + 1)) v f) := by
  intro j hj
  by_cases h : InWin (slotN (b + 1)) j
  · exact landed_in _ _ v f j h
  · rw [landed_out _ _ _ _ _ h, hf j h, padAt, padAt, dif_neg h, dif_neg]
    rwa [show slotN b = slotN (b + 1 + 1) from Fin.ext (by show b % 2 = (b + 1 + 1) % 2; omega)]

end Cert.KernelIdeal.Hand
end
-- ==== Proof.PI.Parts.lean ====
module

public import proofs.«01_k».proof.Proof.PI.Pad

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F]

local notation "𝕄" => MT nD τ sig Unit (Elt F) ℕ (UD sig nD τ) ℕ

/-- The transfers of one grid point — the zero fill and the first copy, the wait for the block's copy and the next block's copy — before `rest`. -/
def startPart {α : Type} (i : grid0.Coords) (arg2 : Memref sig .tc .hbm S55x55x96x128 .f32) (harg2 : arg2.IsWhole) (arg3 : Memref sig .tc .vmem S16x8x128 .f32) (harg3 : arg3.IsWhole) (arg4 : Memref sig .tc .vmem S11x55x8x128 .f32) (harg4 : arg4.IsWhole) (arg5 : Memref sig .tc .vmem S2x79x79x8x128 .f32) (harg5 : arg5.IsWhole) (arg6 : DmaSems sig S2)
    (rest : Prog (TpuEff nD τ sig (Elt F) Λ₀ .tc) α) : Prog (TpuEff nD τ sig (Elt F) Λ₀ .tc) α := do
  if k0_h1 : k0_cond1 i = 1#1 then do
    Scf.Loop.for k0_t1_loop (k0_t1_ok i k0_h1) ⟨⟩ (k0_t1_body i arg2 harg2 arg3 harg3 arg4 harg4 arg5 harg5 arg6 k0_h1)
    let v40 : DmaSems sig S1 := arg6.slice (Rect.unit (s := S2) k0_off2 S1.size (k0_off2_inb i k0_h1))
    let v41 : DmaSems sig S_ := v40.squeeze S_ squeezes_S1_S_
    let v42 : Memref sig .tc .vmem S1x55x55x8x128 .f32 := arg5.slice (Rect.unit (s := S2x79x79x8x128) k0_off3 S1x55x55x8x128.size (k0_off3_inb i k0_h1)) (fun _ => rfl)
    let v43 : Memref sig .tc .vmem S55x55x8x128 .f32 := v42.squeeze S55x55x8x128 squeezes_S1x55x55x8x128_S55x55x8x128
    let v44 : Memref sig .tc .hbm S55x55x8x128 .f32 := arg2.slice (Rect.unit (s := S55x55x96x128) k0_off4 S55x55x8x128.size (k0_off4_inb i k0_h1)) (fun _ => rfl)
    Prog.lift (.enqueueDma v44 (.here v43) (.dma v41.sem) (View.wordExact_bits rfl) ((View.wordExact_bits rfl).reshape _ _) ⟨Or.inl rfl, trivial⟩)
    pure ⟨⟩
  else do
    pure ⟨⟩
  if k0_h2 : k0_cond2 i = 1#1 then do
    let v43 : DmaSems sig S1 := arg6.slice (Rect.unit (s := S2) (k0_off5 i) S1.size (k0_off5_inb i k0_h2))
    let v44 : DmaSems sig S_ := v43.squeeze S_ squeezes_S1_S_
    let v45 : Memref sig .tc .vmem S1x55x55x8x128 .f32 := arg5.slice (Rect.unit (s := S2x79x79x8x128) (k0_off6 i) S1x55x55x8x128.size (k0_off6_inb i k0_h2)) (fun _ => rfl)
    let v46 : Memref sig .tc .vmem S55x55x8x128 .f32 := v45.squeeze S55x55x8x128 squeezes_S1x55x55x8x128_S55x55x8x128
    let v47 : Memref sig .tc .hbm S55x55x8x128 .f32 := arg2.slice (Rect.unit (s := S55x55x96x128) (k0_off7 i) S55x55x8x128.size (k0_off7_inb i k0_h2)) (fun _ => rfl)
    Prog.lift (.waitDma2 v44.sem v47 v46 (View.wordExact_bits rfl) ((View.wordExact_bits rfl).reshape _ _))
    if k0_h3 : k0_cond3 i = 1#1 then do
      let v60 : DmaSems sig S1 := arg6.slice (Rect.unit (s := S2) (k0_off8 i) S1.size (k0_off8_inb i k0_h2 k0_h3))
      let v61 : DmaSems sig S_ := v60.squeeze S_ squeezes_S1_S_
      let v62 : Memref sig .tc .vmem S1x55x55x8x128 .f32 := arg5.slice (Rect.unit (s := S2x79x79x8x128) (k0_off9 i) S1x55x55x8x128.size (k0_off9_inb i k0_h2 k0_h3)) (fun _ => rfl)
      let v63 : Memref sig .tc .vmem S55x55x8x128 .f32 := v62.squeeze S55x55x8x128 squeezes_S1x55x55x8x128_S55x55x8x128
      let v64 : Memref sig .tc .hbm S55x55x8x128 .f32 := arg2.slice (Rect.unit (s := S55x55x96x128) (k0_off10 i) S55x55x8x128.size (k0_off10_inb i k0_h2 k0_h3)) (fun _ => rfl)
      Prog.lift (.enqueueDma v64 (.here v63) (.dma v61.sem) (View.wordExact_bits rfl) ((View.wordExact_bits rfl).reshape _ _) ⟨Or.inl rfl, trivial⟩)
      pure ⟨⟩
    else do
      pure ⟨⟩
    pure ⟨⟩
  else do
    pure ⟨⟩
  rest

/-- The computation of one grid point's active blocks, and the words the last conditional reads. -/
def computePart (i : grid0.Coords) (arg2 : Memref sig .tc .hbm S55x55x96x128 .f32) (harg2 : arg2.IsWhole) (arg3 : Memref sig .tc .vmem S16x8x128 .f32) (harg3 : arg3.IsWhole) (arg4 : Memref sig .tc .vmem S11x55x8x128 .f32) (harg4 : arg4.IsWhole) (arg5 : Memref sig .tc .vmem S2x79x79x8x128 .f32) (harg5 : arg5.IsWhole) (arg6 : DmaSems sig S2) :
    Prog (TpuEff nD τ sig (Elt F) Λ₀ .tc) (Σ' (arg0 : BitVec 32) (v0 : BitVec 32) (v1 : BitVec 32) (v30 : BitVec 1), BitVec 32) := do
  let arg0 : BitVec 32 := BitVec.ofNat 32 (i 0).val
  let arg1 : BitVec 32 := BitVec.ofNat 32 (i 1).val
  let v0 : BitVec 32 := Scalar.muli arg1 11#32
  let v1 : BitVec 32 := Scalar.remsi arg0 2#32
  if k0_h4 : k0_cond4 i = 1#1 then do
    let ⟨v77, v78, v83⟩ : Σ' (v77 : FVec F S11x55x8x128 .f32) (v78 : FVec F S11x55x8x128 .f32), FVec F S11x55x8x128 .f32 ← k0_part1 i arg2 harg2 arg3 harg3 arg4 harg4 arg5 harg5 arg6 arg0 v0 v1 k0_h4
    let v86 : Vec F S11x55x8x128 .f32 ← Prog.lift (.load arg4 (Rect.unit (s := S11x55x8x128) ![0, 0, 0, 0] S11x55x8x128.size inb_S11x55x8x128_S11x55x8x128_0_0_0_0).toLoadRect (View.loadsAt_vmem h_S11x55x8x128))
    Prog.lift (.store arg4 (Rect.unit (s := S11x55x8x128) ![0, 0, 0, 0] S11x55x8x128.size inb_S11x55x8x128_S11x55x8x128_0_0_0_0) (k0_pay13 v77 v78 v83) Finset.univ (View.stores_vmem_bits_univ h_S11x55x8x128 rfl) (.inl rfl))
    pure ⟨⟩
  else do
    pure ⟨⟩
  if k0_h5 : k0_cond5 i = 1#1 then do
    let v38 : Vec F S1x35x79x8x128 .f32 ← Prog.lift (.load arg5 (Rect.unit (s := S2x79x79x8x128) (k0_off14 i) S1x35x79x8x128.size (k0_off14_inb i k0_h5)).toLoadRect (View.loadsAt_vmem h_S1x35x79x8x128))
    let v56 : Vec F S1x8x128 .f32 ← Prog.lift (.load arg3 (Rect.unit (s := S16x8x128) ![4, 0, 0] S1x8x128.size inb_S16x8x128_S1x8x128_4_0_0).toLoadRect (View.loadsAt_vmem h_S1x8x128))
    let v62 : Vec F S11x55x8x128 .f32 ← Prog.lift (.load arg4 (Rect.unit (s := S11x55x8x128) ![0, 0, 0, 0] S11x55x8x128.size inb_S11x55x8x128_S11x55x8x128_0_0_0_0).toLoadRect (View.loadsAt_vmem h_S11x55x8x128))
    Prog.lift (.store arg4 (Rect.unit (s := S11x55x8x128) ![0, 0, 0, 0] S11x55x8x128.size inb_S11x55x8x128_S11x55x8x128_0_0_0_0) (k0_pay14 v38 v56) Finset.univ (View.stores_vmem_bits_univ h_S11x55x8x128 rfl) (.inl rfl))
    pure ⟨⟩
  else do
    pure ⟨⟩
  if k0_h6 : k0_cond6 i = 1#1 then do
    let ⟨v77, v84, v85, v88, v89⟩ : Σ' (v77 : FVec F S11x55x8x128 .f32) (v84 : FVec F S11x55x8x128 .f32) (v85 : FVec F S11x55x8x128 .f32) (v88 : FVec F S11x55x8x128 .f32), FVec F S11x55x8x128 .f32 ← k0_part2 i arg2 harg2 arg3 harg3 arg4 harg4 arg5 harg5 arg6 v0 v1 k0_h6
    let v93 : Vec F S1x8x128 .f32 ← Prog.lift (.load arg3 (Rect.unit (s := S16x8x128) ![7, 0, 0] S1x8x128.size inb_S16x8x128_S1x8x128_7_0_0).toLoadRect (View.loadsAt_vmem h_S1x8x128))
    let v99 : Vec F S11x55x8x128 .f32 ← Prog.lift (.load arg4 (Rect.unit (s := S11x55x8x128) ![0, 0, 0, 0] S11x55x8x128.size inb_S11x55x8x128_S11x55x8x128_0_0_0_0).toLoadRect (View.loadsAt_vmem h_S11x55x8x128))
    Prog.lift (.store arg4 (Rect.unit (s := S11x55x8x128) ![0, 0, 0, 0] S11x55x8x128.size inb_S11x55x8x128_S11x55x8x128_0_0_0_0) (k0_pay15 v77 v84 v85 v88 v89 v93) Finset.univ (View.stores_vmem_bits_univ h_S11x55x8x128 rfl) (.inl rfl))
    pure ⟨⟩
  else do
    pure ⟨⟩
  if k0_h7 : k0_cond7 i = 1#1 then do
    let v38 : Vec F S1x35x79x8x128 .f32 ← Prog.lift (.load arg5 (Rect.unit (s := S2x79x79x8x128) (k0_off16 i) S1x35x79x8x128.size (k0_off16_inb i k0_h7)).toLoadRect (View.loadsAt_vmem h_S1x35x79x8x128))
    let v56 : Vec F S1x8x128 .f32 ← Prog.lift (.load arg3 (Rect.unit (s := S16x8x128) ![8, 0, 0] S1x8x128.size inb_S16x8x128_S1x8x128_8_0_0).toLoadRect (View.loadsAt_vmem h_S1x8x128))
    let v62 : Vec F S11x55x8x128 .f32 ← Prog.lift (.load arg4 (Rect.unit (s := S11x55x8x128) ![0, 0, 0, 0] S11x55x8x128.size inb_S11x55x8x128_S11x55x8x128_0_0_0_0).toLoadRect (View.loadsAt_vmem h_S11x55x8x128))
    Prog.lift (.store arg4 (Rect.unit (s := S11x55x8x128) ![0, 0, 0, 0] S11x55x8x128.size inb_S11x55x8x128_S11x55x8x128_0_0_0_0) (k0_pay16 v38 v56) Finset.univ (View.stores_vmem_bits_univ h_S11x55x8x128 rfl) (.inl rfl))
    pure ⟨⟩
  else do
    pure ⟨⟩
  let v24 : BitVec 1 := Scalar.cmpi .eq arg0 0#32
  let v25 : BitVec 1 := Scalar.cmpi .eq arg0 6#32
  let v26 : BitVec 1 := Scalar.ori v24 v25
  let v27 : BitVec 1 := Scalar.cmpi .eq arg0 3#32
  let v28 : BitVec 1 := Scalar.ori v26 v27
  let v29 : BitVec 1 := Scalar.cmpi .eq arg0 4#32
  let v30 : BitVec 1 := Scalar.ori v28 v29
  pure ⟨arg0, v0, v1, v30, 10#32⟩

/-- The first part of the kernel body is its transfers, then its computation. -/
theorem part3_eq (i : grid0.Coords) (arg2 : Memref sig .tc .hbm S55x55x96x128 .f32) (harg2 : arg2.IsWhole) (arg3 : Memref sig .tc .vmem S16x8x128 .f32) (harg3 : arg3.IsWhole) (arg4 : Memref sig .tc .vmem S11x55x8x128 .f32) (harg4 : arg4.IsWhole) (arg5 : Memref sig .tc .vmem S2x79x79x8x128 .f32) (harg5 : arg5.IsWhole) (arg6 : DmaSems sig S2) :
    k0_part3 (F := F) i arg2 harg2 arg3 harg3 arg4 harg4 arg5 harg5 arg6 = startPart i arg2 harg2 arg3 harg3 arg4 harg4 arg5 harg5 arg6 (computePart i arg2 harg2 arg3 harg3 arg4 harg4 arg5 harg5 arg6) := rfl

/-- What is left after the first part: the plain copy of the blocks that have no active channel. -/
def finishPart (i : grid0.Coords) (arg2 : Memref sig .tc .hbm S55x55x96x128 .f32) (harg2 : arg2.IsWhole) (arg3 : Memref sig .tc .vmem S16x8x128 .f32) (harg3 : arg3.IsWhole) (arg4 : Memref sig .tc .vmem S11x55x8x128 .f32) (harg4 : arg4.IsWhole) (arg5 : Memref sig .tc .vmem S2x79x79x8x128 .f32) (harg5 : arg5.IsWhole) (arg6 : DmaSems sig S2) :
    (Σ' (arg0 : BitVec 32) (v0 : BitVec 32) (v1 : BitVec 32) (v30 : BitVec 1), BitVec 32) → Prog (TpuEff nD τ sig (Elt F) Λ₀ .tc) PUnit
  | ⟨arg0, v0, v1, v30, c10⟩ => do
    if k0_h8 : k0_cond8 i = 1#1 then do
      let v39 : Vec F S1x11x55x8x128 .f32 ← Prog.lift (.load arg5 (Rect.unit (s := S2x79x79x8x128) (k0_off17 i) S1x11x55x8x128.size (k0_off17_inb i k0_h8)).toLoadRect (View.loadsAt_vmem h_S1x11x55x8x128))
      let v41 : Vec F S11x55x8x128 .f32 ← Prog.lift (.load arg4 (Rect.unit (s := S11x55x8x128) ![0, 0, 0, 0] S11x55x8x128.size inb_S11x55x8x128_S11x55x8x128_0_0_0_0).toLoadRect (View.loadsAt_vmem h_S11x55x8x128))
      Prog.lift (.store arg4 (Rect.unit (s := S11x55x8x128) ![0, 0, 0, 0] S11x55x8x128.size inb_S11x55x8x128_S11x55x8x128_0_0_0_0) (k0_pay1 v39) Finset.univ (View.stores_vmem_bits_univ h_S11x55x8x128 rfl) (.inl rfl))
      pure ⟨⟩
    else do
      pure ⟨⟩
    pure ⟨⟩

/-- The kernel body is its first part, then the plain copy. -/
theorem body_eq (i : grid0.Coords) (arg2 : Memref sig .tc .hbm S55x55x96x128 .f32) (harg2 : arg2.IsWhole) (arg3 : Memref sig .tc .vmem S16x8x128 .f32) (harg3 : arg3.IsWhole) (arg4 : Memref sig .tc .vmem S11x55x8x128 .f32) (harg4 : arg4.IsWhole) (arg5 : Memref sig .tc .vmem S2x79x79x8x128 .f32) (harg5 : arg5.IsWhole) (arg6 : DmaSems sig S2) :
    cc0__body (F := F) i arg2 harg2 arg3 harg3 arg4 harg4 arg5 harg5 arg6 = k0_part3 i arg2 harg2 arg3 harg3 arg4 harg4 arg5 harg5 arg6 >>= finishPart i arg2 harg2 arg3 harg3 arg4 harg4 arg5 harg5 arg6 := rfl

end Cert.KernelIdeal.Hand
end
-- ==== Proof.PI.Start.lean ====
module

public import proofs.«01_k».proof.Proof.PI.Parts

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F]

local notation "𝕄" => MT nD τ sig Unit (Elt F) ℕ (UD sig nD τ) ℕ

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond3_iff : ∀ i : grid0.Coords, k0_cond3 i = 1#1 ↔ (i 0).val + 1 < 12 := by decide +kernel
theorem off7_closed : ∀ i : grid0.Coords, k0_off7 i = ![0, 0, 8 * (physN (i 0).val).val, 0] := by decide +kernel
theorem off10_closed : ∀ i : grid0.Coords, (i 0).val + 1 < 12 → k0_off10 i = ![0, 0, 8 * (physN ((i 0).val + 1)).val, 0] := by decide +kernel

variable (c : Dev nD)

/-- Starting a copy through views whose offsets are known in closed form. -/
theorem wp_issue_at (s : Fin 2) (k : Fin 12) (v : Xt F) (f : Pb F) {α : Type} (K : PUnit → Prog (TpuEff nD τ sig (Elt F) Λ₀ .tc) α) (Q : α → sProp 𝕄)
    (o1 : Fin 1 → ℕ) (o4 : Fin 4 → ℕ) (o5 : Fin 5 → ℕ) (e1 : o1 = ![s.val]) (e4 : o4 = ![0, 0, 8 * k.val, 0]) (e5 : o5 = ![s.val, 12, 12, 0, 0])
    {b1 b4 b5 h1 h2 h3} :
    iprop(((c : Thread nD τ).loc cc0_scratch0 ↦{fullShare} f) ∗ ((c : Thread nD τ).loc main_v0 ↦{fullShare} v) ∗ semVal ((c : Thread nD τ), .dma (cell s)) 0
        ∗ (Flying c s k v f -∗ wp frame (wpE (defs₀ (F := F)) Variants.none c none) Set.univ (K ⟨⟩) Q))
      ⊢ wp frame (wpE (defs₀ (F := F)) Variants.none c none) Set.univ
          (Prog.lift (.enqueueDma ((Memref.whole main_v0).slice (Rect.unit (s := S55x55x96x128) o4 S55x55x8x128.size b4) (fun _ => rfl))
            (.here (((Memref.whole cc0_scratch0).slice (Rect.unit (s := S2x79x79x8x128) o5 S1x55x55x8x128.size b5) (fun _ => rfl)).squeeze
              S55x55x8x128 squeezes_S1x55x55x8x128_S55x55x8x128))
            (.dma ((cc0_scratch1.slice (Rect.unit (s := S2) o1 S1.size b1)).squeeze S_ squeezes_S1_S_).sem) h1 h2 h3) >>= K) Q := by
  subst e1 e4 e5
  exact wp_issue c s k v f K Q

/-- Waiting for a copy through views whose offsets are known in closed form. -/
theorem wp_wait_at (s : Fin 2) (k : Fin 12) (v : Xt F) (f : Pb F) (W : Waits sig Unit) {α : Type} (K : PUnit → Prog (TpuEff nD τ sig (Elt F) Λ₀ .tc) α) (Q : α → sProp 𝕄)
    (o1 : Fin 1 → ℕ) (o4 : Fin 4 → ℕ) (o5 : Fin 5 → ℕ) (e1 : o1 = ![s.val]) (e4 : o4 = ![0, 0, 8 * k.val, 0]) (e5 : o5 = ![s.val, 12, 12, 0, 0])
    {b1 b4 b5 h1 h2} :
    iprop(Flying c s k v f ∗ owes (c : Thread nD τ) 0 W
        ∗ ((((c : Thread nD τ).loc cc0_scratch0 ↦{fullShare} landed s k v f) ∗ ((c : Thread nD τ).loc main_v0 ↦{fullShare} v) ∗ semVal ((c : Thread nD τ), .dma (cell s)) 0
            ∗ owes (c : Thread nD τ) 0 (insert (SemLoc.dma (cell s), ()) W)) -∗ wp frame (wpE (defs₀ (F := F)) Variants.none c none) Set.univ (K ⟨⟩) Q))
      ⊢ wp frame (wpE (defs₀ (F := F)) Variants.none c none) Set.univ
          (Prog.lift (.waitDma2 ((cc0_scratch1.slice (Rect.unit (s := S2) o1 S1.size b1)).squeeze S_ squeezes_S1_S_).sem
            ((Memref.whole main_v0).slice (Rect.unit (s := S55x55x96x128) o4 S55x55x8x128.size b4) (fun _ => rfl))
            (((Memref.whole cc0_scratch0).slice (Rect.unit (s := S2x79x79x8x128) o5 S1x55x55x8x128.size b5) (fun _ => rfl)).squeeze
              S55x55x8x128 squeezes_S1x55x55x8x128_S55x55x8x128) h1 h2) >>= K) Q := by
  subst e1 e4 e5
  exact wp_wait c s k v f W K Q

/-- No copy in flight: the scratch, the transposed input, both semaphores at zero. -/
def Resting (v : Xt F) (f : Pb F) : sProp 𝕄 :=
  iprop(((c : Thread nD τ).loc cc0_scratch0 ↦{fullShare} f) ∗ ((c : Thread nD τ).loc main_v0 ↦{fullShare} v)
    ∗ semVal ((c : Thread nD τ), .dma (cell 0)) 0 ∗ semVal ((c : Thread nD τ), .dma (cell 1)) 0)

/-- What the core holds while block `b` is worked on: the next block's copy in flight, if there is a next block. -/
def Ready (b : ℕ) (v : Xt F) (f : Pb F) : sProp 𝕄 :=
  if b < 11 then iprop(Flying c (slotN (b + 1)) (physN (b + 1)) v f ∗ semVal ((c : Thread nD τ), .dma (cell (slotN b))) 0)
  else Resting c v f

theorem ready_of_lt (b : ℕ) (v : Xt F) (f : Pb F) (h : b < 11) :
    Ready c b v f = iprop(Flying c (slotN (b + 1)) (physN (b + 1)) v f ∗ semVal ((c : Thread nD τ), .dma (cell (slotN b))) 0) := if_pos h

theorem ready_last (v : Xt F) (f : Pb F) : Ready c 11 v f = Resting c v f := if_neg (by decide)

/-- What the core holds between points: at first the resting scratch at any contents; after a point of block `b`, block `b` padded in its slot. -/
def Held (v : Xt F) : ℕ → sProp 𝕄
  | 0 => iprop(∃ f : Pb F, Resting c v f)
  | n + 1 => iprop(∃ f : Pb F, ⌜Padded (n / 5) v f⌝ ∗ Ready c (n / 5) v f)

section start
variable {a3 : Memref sig .tc .vmem S16x8x128 .f32} {ha3 : a3.IsWhole} {a4 : Memref sig .tc .vmem S11x55x8x128 .f32} {ha4 : a4.IsWhole}
  {ha2 : (Memref.whole main_v0).IsWhole} {ha5 : (Memref.whole cc0_scratch0).IsWhole}

/-- The first point zeroes the scratch, copies block 0 in and starts block 1's copy. -/
theorem start_first (i : grid0.Coords) (h0 : (i 0).val = 0) (h1 : (i 1).val = 0) (v : Xt F) (f : Pb F) (W : Waits sig Unit) {α : Type}
    (K : Prog (TpuEff nD τ sig (Elt F) Λ₀ .tc) α) (Q : α → sProp 𝕄) :
    iprop(Resting c v f ∗ owes (c : Thread nD τ) 0 W
        ∗ (∀ f' : Pb F, ∀ W' : Waits sig Unit, ⌜Padded 0 v f'⌝ -∗ Ready c 0 v f' -∗ owes (c : Thread nD τ) 0 W' -∗ wp frame (wpE (defs₀ (F := F)) Variants.none c none) Set.univ K Q))
      ⊢ wp frame (wpE (defs₀ (F := F)) Variants.none c none) Set.univ
          (startPart i (Memref.whole main_v0) ha2 a3 ha3 a4 ha4 (Memref.whole cc0_scratch0) ha5 cc0_scratch1 K) Q := by
  unfold startPart
  have c1 : k0_cond1 i = 1#1 := (cond1_iff i).mpr ⟨h0, h1⟩
  have c2 : k0_cond2 i = 1#1 := (cond2_iff i).mpr h1
  have c3 : k0_cond3 i = 1#1 := (cond3_iff i).mpr (by omega)
  rw [dif_pos c1, dif_pos c2, dif_pos c3]
  unfold Resting
  iintro ⟨⟨Hp, Hx, Hs0, Hs1⟩, HO, HK⟩
  iapply (wp_zero c i c1 f) $$ [-]
  isplitl [Hp]; · iexact Hp
  iintro %f' %hf' Hp
  iapply (wp_issue_at c 0 0 v f' _ Q _ _ _ (by decide +kernel) (by decide +kernel) (by decide +kernel)) $$ [-]
  isplitl [Hp]; · iexact Hp
  isplitl [Hx]; · iexact Hx
  isplitl [Hs0]; · iexact Hs0
  iintro HF
  iapply (wp_wait_at c 0 0 v f' W _ Q _ _ _ (by rw [k0_off5_eq, h0]; rfl) (by rw [off7_closed, h0]; rfl) (by rw [k0_off6_eq, h0]; rfl)) $$ [-]
  isplitl [HF]; · iexact HF
  isplitl [HO]; · iexact HO
  iintro ⟨Hp, Hx, Hs0, HO⟩
  iapply (wp_issue_at c 1 (physN 1) v _ _ Q _ _ _ (by rw [k0_off8_eq, h0]; rfl) (by rw [off10_closed i (by omega), h0]) (by rw [k0_off9_eq, h0]; rfl)) $$ [-]
  isplitl [Hp]; · iexact Hp
  isplitl [Hx]; · iexact Hx
  isplitl [Hs1]; · iexact Hs1
  iintro HF
  iapply HK $$ [] [HF Hs0] HO
  · ipureintro; exact padded_first v f' hf'
  · rw [ready_of_lt c 0 v _ (by decide)]
    isplitl [HF]; · iexact HF
    iexact Hs0

/-- The first point of a later block waits for the block's copy and starts the next one's, if there is one. -/
theorem start_next (i : grid0.Coords) (b : ℕ) (hb : b < 11) (h0 : (i 0).val = b + 1) (h1 : (i 1).val = 0) (v : Xt F) (f : Pb F) (hf : Padded b v f) (W : Waits sig Unit) {α : Type}
    (K : Prog (TpuEff nD τ sig (Elt F) Λ₀ .tc) α) (Q : α → sProp 𝕄) :
    iprop(Ready c b v f ∗ owes (c : Thread nD τ) 0 W
        ∗ (∀ f' : Pb F, ∀ W' : Waits sig Unit, ⌜Padded (b + 1) v f'⌝ -∗ Ready c (b + 1) v f' -∗ owes (c : Thread nD τ) 0 W' -∗ wp frame (wpE (defs₀ (F := F)) Variants.none c none) Set.univ K Q))
      ⊢ wp frame (wpE (defs₀ (F := F)) Variants.none c none) Set.univ
          (startPart i (Memref.whole main_v0) ha2 a3 ha3 a4 ha4 (Memref.whole cc0_scratch0) ha5 cc0_scratch1 K) Q := by
  unfold startPart
  have c1 : ¬ k0_cond1 i = 1#1 := fun h => by have := (cond1_iff i).mp h; omega
  have c2 : k0_cond2 i = 1#1 := (cond2_iff i).mpr h1
  rw [dif_neg c1, dif_pos c2, ready_of_lt c b v f hb]
  iintro ⟨⟨HF, Hs⟩, HO, HK⟩
  iapply (wp_wait_at c (slotN (b + 1)) (physN (b + 1)) v f W _ Q _ _ _ (by rw [k0_off5_eq, h0]) (by rw [off7_closed, h0]) (by rw [k0_off6_eq, h0])) $$ [-]
  isplitl [HF]; · iexact HF
  isplitl [HO]; · iexact HO
  iintro ⟨Hp, Hx, Hs', HO⟩
  by_cases hl : b + 1 < 11
  · have c3 : k0_cond3 i = 1#1 := (cond3_iff i).mpr (by omega)
    rw [dif_pos c3]
    have es : slotN b = slotN (b + 1 + 1) := Fin.ext (by show b % 2 = (b + 1 + 1) % 2; omega)
    iapply (wp_issue_at c (slotN (b + 1 + 1)) (physN (b + 1 + 1)) v _ _ Q _ _ _ (by rw [k0_off8_eq, h0]) (by rw [off10_closed i (by omega), h0]) (by rw [k0_off9_eq, h0])) $$ [-]
    isplitl [Hp]; · iexact Hp
    isplitl [Hx]; · iexact Hx
    isplitl [Hs]; · rw [← es]; iexact Hs
    iintro HF
    iapply HK $$ [] [HF Hs'] HO
    · ipureintro; exact padded_next b v f hf
    · rw [ready_of_lt c (b + 1) v _ hl]
      isplitl [HF]; · iexact HF
      iexact Hs'
  · have c3 : ¬ k0_cond3 i = 1#1 := fun h => by have := (cond3_iff i).mp h; omega
    rw [dif_neg c3]
    obtain rfl : b = 10 := by omega
    have e1 : slotN (10 + 1) = 1 := rfl
    have e2 : slotN 10 = 0 := rfl
    iapply HK $$ [] [Hp Hx Hs Hs'] HO
    · ipureintro; exact padded_next 10 v f hf
    · rw [ready_last]
      unfold Resting
      isplitl [Hp]; · iexact Hp
      isplitl [Hx]; · iexact Hx
      isplitl [Hs]; · iexact Hs
      iexact Hs'

/-- A later point of a block transfers nothing. -/
theorem start_same (i : grid0.Coords) (h1 : (i 1).val ≠ 0) {α : Type} (K : Prog (TpuEff nD τ sig (Elt F) Λ₀ .tc) α) :
    startPart i (Memref.whole main_v0) ha2 a3 ha3 a4 ha4 (Memref.whole cc0_scratch0) ha5 cc0_scratch1 K = K := by
  unfold startPart
  have c1 : ¬ k0_cond1 i = 1#1 := fun h => h1 ((cond1_iff i).mp h).2
  have c2 : ¬ k0_cond2 i = 1#1 := fun h => h1 ((cond2_iff i).mp h)
  rw [dif_neg c1, dif_neg c2]

end start

/-- The transfers of point `t`, from what is held before it to block `t / 5` padded in its slot. -/
theorem wp_start {a3 : Memref sig .tc .vmem S16x8x128 .f32} {ha3 : a3.IsWhole} {a4 : Memref sig .tc .vmem S11x55x8x128 .f32} {ha4 : a4.IsWhole}
    {ha2 : (Memref.whole main_v0).IsWhole} {ha5 : (Memref.whole cc0_scratch0).IsWhole}
    (i : grid0.Coords) (t : ℕ) (ht : t < 60) (h0 : (i 0).val = t / 5) (h1 : (i 1).val = t % 5) (v : Xt F) (W : Waits sig Unit) {α : Type}
    (K : Prog (TpuEff nD τ sig (Elt F) Λ₀ .tc) α) (Q : α → sProp 𝕄) :
    iprop(Held c v t ∗ owes (c : Thread nD τ) 0 W
        ∗ (∀ f' : Pb F, ∀ W' : Waits sig Unit, ⌜Padded (t / 5) v f'⌝ -∗ Ready c (t / 5) v f' -∗ owes (c : Thread nD τ) 0 W' -∗ wp frame (wpE (defs₀ (F := F)) Variants.none c none) Set.univ K Q))
      ⊢ wp frame (wpE (defs₀ (F := F)) Variants.none c none) Set.univ
          (startPart i (Memref.whole main_v0) ha2 a3 ha3 a4 ha4 (Memref.whole cc0_scratch0) ha5 cc0_scratch1 K) Q := by
  match t, ht, h0, h1 with
  | 0, _, h0, h1 =>
    unfold Held
    iintro ⟨⟨%f, H⟩, HO, HK⟩
    iapply (start_first c i h0 h1 v f W K Q) $$ [-]
    isplitl [H]; · iexact H
    isplitl [HO]; · iexact HO
    iexact HK
  | n + 1, ht, h0, h1 =>
    unfold Held
    iintro ⟨⟨%f, %hf, H⟩, HO, HK⟩
    by_cases hm : (n + 1) % 5 = 0
    · have e : (n + 1) / 5 = n / 5 + 1 := by omega
      rw [e] at h0 ⊢
      iapply (start_next c i (n / 5) (by omega) h0 (by omega) v f hf W K Q) $$ [-]
      isplitl [H]; · iexact H
      isplitl [HO]; · iexact HO
      iexact HK
    · have e : (n + 1) / 5 = n / 5 := by omega
      rw [e] at h0 ⊢
      rw [start_same i (by omega) K]
      iapply HK $$ [] H HO
      ipureintro; exact hf

end Cert.KernelIdeal.Hand
end
-- ==== Proof.PI.Compute.lean ====
module

public import proofs.«01_k».proof.Proof.PI.Start

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F]

local notation "𝕄" => MT nD τ sig Unit (Elt F) ℕ (UD sig nD τ) ℕ

/-- Block `b`'s kind, as the kernel's conditions decide it. -/
theorem cond4_iff : ∀ i : grid0.Coords, k0_cond4 i = 1#1 ↔ ((i 0).val = 0 ∨ (i 0).val = 6) := by decide +kernel
theorem cond5_iff : ∀ i : grid0.Coords, k0_cond5 i = 1#1 ↔ (i 0).val = 3 := by decide +kernel
theorem cond6_iff : ∀ i : grid0.Coords, k0_cond6 i = 1#1 ↔ (i 0).val = 4 := by decide +kernel
theorem cond7_iff : ∀ i : grid0.Coords, k0_cond7 i = 1#1 ↔ (i 0).val = 10 := by decide +kernel
theorem cond8_iff : ∀ i : grid0.Coords, k0_cond8 i = 1#1 ↔ ¬ ((i 0).val = 0 ∨ (i 0).val = 6 ∨ (i 0).val = 3 ∨ (i 0).val = 4 ∨ (i 0).val = 10) := by decide +kernel

/-- The weights as the kernel's window holds them, and one output block. -/
abbrev Wt (F : FTy → Type) := S16x8x128.Idx → Elt F .f32
abbrev Blk (F : FTy → Type) := S11x55x8x128.Idx → Elt F .f32

/-- The part of an array a rectangle picks. -/
abbrev pick {s : Shape} {α : Type} (g : s.Idx → α) (r : Rect s) : r.shape.Idx → α := fun x => g (r.emb x)

/-- The block a grid point writes, from the padded scratch `g` and the weights `w`. -/
def outBlk (i : grid0.Coords) (g : Pb F) (w : Wt F) : Blk F :=
  if h : k0_cond4 i = 1#1 then
    k0_pay13 (k0_pay3 (pick g (Rect.unit (s := S2x79x79x8x128) (k0_off11 i) S1x11x79x8x128.size (k0_off11_inb i h))))
      (k0_pay4 (pick g (Rect.unit (s := S2x79x79x8x128) (k0_off11 i) S1x11x79x8x128.size (k0_off11_inb i h)))
        (pick g (Rect.unit (s := S2x79x79x8x128) (k0_off12 i) S1x35x55x8x128.size (k0_off12_inb i h))))
      (k0_pay5 (pick w (Rect.unit (s := S16x8x128) (k0_off13 i) S1x8x128.size (k0_off13_inb i h))))
  else if h : k0_cond5 i = 1#1 then
    k0_pay14 (pick g (Rect.unit (s := S2x79x79x8x128) (k0_off14 i) S1x35x79x8x128.size (k0_off14_inb i h)))
      (pick w (Rect.unit (s := S16x8x128) ![4, 0, 0] S1x8x128.size inb_S16x8x128_S1x8x128_4_0_0))
  else if h : k0_cond6 i = 1#1 then
    k0_pay15 (k0_pay7 (pick g (Rect.unit (s := S2x79x79x8x128) (k0_off15 i) S1x35x79x8x128.size (k0_off15_inb i h)))
        (pick w (Rect.unit (s := S16x8x128) ![5, 0, 0] S1x8x128.size inb_S16x8x128_S1x8x128_5_0_0)))
      (k0_pay8 (pick g (Rect.unit (s := S2x79x79x8x128) (k0_off15 i) S1x35x79x8x128.size (k0_off15_inb i h))))
      (k0_pay9 (pick g (Rect.unit (s := S2x79x79x8x128) (k0_off15 i) S1x35x79x8x128.size (k0_off15_inb i h))))
      (k0_pay10 (pick g (Rect.unit (s := S2x79x79x8x128) (k0_off15 i) S1x35x79x8x128.size (k0_off15_inb i h))))
      (k0_pay11 (pick g (Rect.unit (s := S2x79x79x8x128) (k0_off15 i) S1x35x79x8x128.size (k0_off15_inb i h))))
      (pick w (Rect.unit (s := S16x8x128) ![7, 0, 0] S1x8x128.size inb_S16x8x128_S1x8x128_7_0_0))
  else if h : k0_cond7 i = 1#1 then
    k0_pay16 (pick g (Rect.unit (s := S2x79x79x8x128) (k0_off16 i) S1x35x79x8x128.size (k0_off16_inb i h)))
      (pick w (Rect.unit (s := S16x8x128) ![8, 0, 0] S1x8x128.size inb_S16x8x128_S1x8x128_8_0_0))
  else if h : k0_cond8 i = 1#1 then
    k0_pay1 (pick g (Rect.unit (s := S2x79x79x8x128) (k0_off17 i) S1x11x55x8x128.size (k0_off17_inb i h)))
  else fun _ => zeroF F

variable (c : Dev nD)

/-- A load from the part `S` of the scratch. -/
theorem wp_pb (S : Finset S2x79x79x8x128.Idx) (g : Pb F) (r : Rect S2x79x79x8x128) (hS : r.set ⊆ S) {α : Type} {hl}
    (k : (r.shape.Idx → Elt F .f32) → Prog (TpuEff nD τ sig (Elt F) Λ₀ .tc) α) (Q : α → sProp 𝕄) :
    iprop(((c : Thread nD τ).loc cc0_scratch0 ↦[S]{fullShare} g)
        ∗ (((c : Thread nD τ).loc cc0_scratch0 ↦[S]{fullShare} g) -∗ wp frame (wpE (defs₀ (F := F)) Variants.none c none) Set.univ (k (pick g r)) Q))
      ⊢ (wp frame (wpE (defs₀ (F := F)) Variants.none c none) Set.univ (.op (.load (Memref.whole cc0_scratch0) r.toLoadRect hl) k) Q : sProp 𝕄) := by
  iintro ⟨Hp, HK⟩
  iapply (wp_load_rect Variants.none (c : Thread nD τ) none Set.univ (m := Memref.whole cc0_scratch0) (r := r) (S := S) (f := g)
    (by rw [show ((Memref.whole cc0_scratch0).access r).set = r.set from View.set_slice_whole _ _]; exact hS)) $$ [Hp]
  · iexact Hp
  iintro Hp
  iapply HK $$ [Hp]
  iexact Hp

/-- A load from an owned memref. -/
theorem wp_own {sh : Shape} (a : Memref sig .tc .vmem sh .f32) (X : sh.Idx → Elt F .f32) (r : Rect sh) {α : Type} {hl}
    (k : (r.shape.Idx → Elt F .f32) → Prog (TpuEff nD τ sig (Elt F) Λ₀ .tc) α) (Q : α → sProp 𝕄) :
    iprop(owns (c : Thread nD τ) a fullShare X
        ∗ (owns (c : Thread nD τ) a fullShare X -∗ wp frame (wpE (defs₀ (F := F)) Variants.none c none) Set.univ (k (pick X r)) Q))
      ⊢ (wp frame (wpE (defs₀ (F := F)) Variants.none c none) Set.univ (.op (.load a r.toLoadRect hl) k) Q : sProp 𝕄) := by
  unfold owns
  iintro ⟨⟨%f, %hf, Hp⟩, HK⟩
  iapply (wp_load_rect Variants.none (c : Thread nD τ) none Set.univ (m := a) (r := r) (S := a.view.set) (f := f)
    (View.set_slice_subset _ _)) $$ [Hp]
  · iexact Hp
  iintro Hp
  rw [show pick X r = (a.access r).read (Elt F) f from by subst hf; rfl]
  iapply HK
  iexists f
  isplitr
  · ipureintro; exact hf
  iexact Hp

theorem full_emb (x : S11x55x8x128.Idx) :
    (Rect.unit (s := S11x55x8x128) ![0, 0, 0, 0] S11x55x8x128.size inb_S11x55x8x128_S11x55x8x128_0_0_0_0).emb x = x := by
  funext a
  apply Fin.ext
  rw [Rect.emb_apply]
  fin_cases a
  · show 0 + 1 * (x 0).val = (x 0).val
    omega
  · show 0 + 1 * (x 1).val = (x 1).val
    omega
  · show 0 + 1 * (x 2).val = (x 2).val
    omega
  · show 0 + 1 * (x 3).val = (x 3).val
    omega

/-- A store of a whole output block. -/
theorem wp_put (a : Memref sig .tc .vmem S11x55x8x128 .f32) (X w : Blk F) {α : Type} {hx hm}
    (k : PUnit → Prog (TpuEff nD τ sig (Elt F) Λ₀ .tc) α) (Q : α → sProp 𝕄) :
    iprop(owns (c : Thread nD τ) a fullShare X
        ∗ (owns (c : Thread nD τ) a fullShare w -∗ wp frame (wpE (defs₀ (F := F)) Variants.none c none) Set.univ (k ⟨⟩) Q))
      ⊢ (wp frame (wpE (defs₀ (F := F)) Variants.none c none) Set.univ
          (.op (.store a (Rect.unit (s := S11x55x8x128) ![0, 0, 0, 0] S11x55x8x128.size inb_S11x55x8x128_S11x55x8x128_0_0_0_0) w Finset.univ hx hm) k) Q : sProp 𝕄) := by
  unfold owns
  iintro ⟨⟨%f, %hf, Hp⟩, HK⟩
  iapply (wp_store Variants.none (c : Thread nD τ) none Set.univ (m := a)
    (r := Rect.unit (s := S11x55x8x128) ![0, 0, 0, 0] S11x55x8x128.size inb_S11x55x8x128_S11x55x8x128_0_0_0_0) (w := w) (S := a.view.set) (f := f)
    (by rw [View.setOn_univ]; exact View.set_slice_subset _ _)) $$ [Hp]
  · iexact Hp
  iintro Hp
  iapply HK
  iexists _
  isplitr
  swap
  · iexact Hp
  · ipureintro
    funext x
    have e := congrFun (View.read_write_univ (v := a.access (Rect.unit (s := S11x55x8x128) ![0, 0, 0, 0] S11x55x8x128.size inb_S11x55x8x128_S11x55x8x128_0_0_0_0)) f w) x
    have e' : a.view.read (Elt F) ((a.access (Rect.unit (s := S11x55x8x128) ![0, 0, 0, 0] S11x55x8x128.size inb_S11x55x8x128_S11x55x8x128_0_0_0_0)).write (Elt F) f w Finset.univ)
        ((Rect.unit (s := S11x55x8x128) ![0, 0, 0, 0] S11x55x8x128.size inb_S11x55x8x128_S11x55x8x128_0_0_0_0).emb x) = w x := e
    rwa [full_emb] at e'

/-- The kernel's load of its output block, whose value it drops, and the store of the block. -/
theorem wp_emit (a : Memref sig .tc .vmem S11x55x8x128 .f32) (X w : Blk F) {α : Type} {hl hx hm}
    (k : PUnit → Prog (TpuEff nD τ sig (Elt F) Λ₀ .tc) α) (Q : α → sProp 𝕄) :
    iprop(owns (c : Thread nD τ) a fullShare X
        ∗ (owns (c : Thread nD τ) a fullShare w -∗ wp frame (wpE (defs₀ (F := F)) Variants.none c none) Set.univ (k ⟨⟩) Q))
      ⊢ (wp frame (wpE (defs₀ (F := F)) Variants.none c none) Set.univ
          (.op (.load a (Rect.unit (s := S11x55x8x128) ![0, 0, 0, 0] S11x55x8x128.size inb_S11x55x8x128_S11x55x8x128_0_0_0_0).toLoadRect hl) fun _ =>
            .op (.store a (Rect.unit (s := S11x55x8x128) ![0, 0, 0, 0] S11x55x8x128.size inb_S11x55x8x128_S11x55x8x128_0_0_0_0) w Finset.univ hx hm) k) Q : sProp 𝕄) := by
  iintro ⟨Ho, HK⟩
  iapply (wp_own c a X _) $$ [-]
  isplitl [Ho]; · iexact Ho
  iintro Ho
  iapply (wp_put c a X w) $$ [-]
  isplitl [Ho]; · iexact Ho
  iexact HK

/-- A rectangle inside slot `b % 2` lies in a part that holds the slot. -/
theorem rect_sub (S : Finset S2x79x79x8x128.Idx) (b : ℕ) (hS : ∀ j : S2x79x79x8x128.Idx, (j 0).val = b % 2 → j ∈ S) (o : Fin 5 → ℕ) (z : Fin 5 → ℕ)
    (hb : ∀ a, o a + z a ≤ S2x79x79x8x128.size a) (h0 : o 0 = b % 2) (h1 : z 0 = 1) : (Rect.unit (s := S2x79x79x8x128) o z hb).set ⊆ S := by
  intro j hj
  rw [Rect.mem_set_unit] at hj
  have := hj 0
  exact hS j (by omega)

/-- The computation of a grid point stores `outBlk`, whatever the part of the scratch held, as long as it holds the block's slot. -/
theorem wp_compute {a3 : Memref sig .tc .vmem S16x8x128 .f32} {ha3 : a3.IsWhole} {a4 : Memref sig .tc .vmem S11x55x8x128 .f32} {ha4 : a4.IsWhole}
    {ha2 : (Memref.whole main_v0).IsWhole} {ha5 : (Memref.whole cc0_scratch0).IsWhole}
    (i : grid0.Coords) (S : Finset S2x79x79x8x128.Idx) (hS : ∀ j : S2x79x79x8x128.Idx, (j 0).val = (i 0).val % 2 → j ∈ S)
    (g : Pb F) (w : Wt F) (d : Blk F) (Q : PUnit → sProp 𝕄) :
    iprop(((c : Thread nD τ).loc cc0_scratch0 ↦[S]{fullShare} g) ∗ owns (c : Thread nD τ) a3 fullShare w ∗ owns (c : Thread nD τ) a4 fullShare d
        ∗ (((c : Thread nD τ).loc cc0_scratch0 ↦[S]{fullShare} g) -∗ owns (c : Thread nD τ) a3 fullShare w -∗ owns (c : Thread nD τ) a4 fullShare (outBlk i g w) -∗ Q ⟨⟩))
      ⊢ (wp frame (wpE (defs₀ (F := F)) Variants.none c none) Set.univ
          (computePart i (Memref.whole main_v0) ha2 a3 ha3 a4 ha4 (Memref.whole cc0_scratch0) ha5 cc0_scratch1 >>= finishPart i (Memref.whole main_v0) ha2 a3 ha3 a4 ha4 (Memref.whole cc0_scratch0) ha5 cc0_scratch1) Q : sProp 𝕄) := by
  have x4 := cond4_iff i
  have x5 := cond5_iff i
  have x6 := cond6_iff i
  have x7 := cond7_iff i
  have x8 := cond8_iff i
  unfold computePart finishPart
  by_cases h4 : k0_cond4 i = 1#1
  · have e4 := x4.mp h4
    have h5 : ¬ k0_cond5 i = 1#1 := by rw [x5]; omega
    have h6 : ¬ k0_cond6 i = 1#1 := by rw [x6]; omega
    have h7 : ¬ k0_cond7 i = 1#1 := by rw [x7]; omega
    have h8 : ¬ k0_cond8 i = 1#1 := by rw [x8]; omega
    simp only [dif_pos h4, dif_neg h5, dif_neg h6, dif_neg h7, dif_neg h8, outBlk, k0_part1_eq_skeleton, k0_part1_skel, k0_part2_eq_skeleton, k0_part2_skel]
    iintro ⟨Hp, Hw, Ho, HK⟩
    iapply (wp_pb c S g _ (rect_sub S _ hS _ _ _ (by rw [k0_off11_eq]; rfl) rfl)) $$ [-]
    isplitl [Hp]; · iexact Hp
    iintro Hp
    iapply (wp_pb c S g _ (rect_sub S _ hS _ _ _ (by rw [k0_off12_eq]; rfl) rfl)) $$ [-]
    isplitl [Hp]; · iexact Hp
    iintro Hp
    iapply (wp_own c a3 w _) $$ [-]
    isplitl [Hw]; · iexact Hw
    iintro Hw
    iapply (wp_emit c a4 d _) $$ [-]
    isplitl [Ho]; · iexact Ho
    iintro Ho
    iapply (le_wp_ret _ _ _ _ _)
    iapply HK $$ Hp Hw Ho
  by_cases h5 : k0_cond5 i = 1#1
  · have e5 := x5.mp h5
    have h6 : ¬ k0_cond6 i = 1#1 := by rw [x6]; omega
    have h7 : ¬ k0_cond7 i = 1#1 := by rw [x7]; omega
    have h8 : ¬ k0_cond8 i = 1#1 := by rw [x8]; omega
    simp only [dif_neg h4, dif_pos h5, dif_neg h6, dif_neg h7, dif_neg h8, outBlk, k0_part1_eq_skeleton, k0_part1_skel, k0_part2_eq_skeleton, k0_part2_skel]
    iintro ⟨Hp, Hw, Ho, HK⟩
    iapply (wp_pb c S g _ (rect_sub S _ hS _ _ _ (by rw [k0_off14_eq]; rfl) rfl)) $$ [-]
    isplitl [Hp]; · iexact Hp
    iintro Hp
    iapply (wp_own c a3 w _) $$ [-]
    isplitl [Hw]; · iexact Hw
    iintro Hw
    iapply (wp_emit c a4 d _) $$ [-]
    isplitl [Ho]; · iexact Ho
    iintro Ho
    iapply (le_wp_ret _ _ _ _ _)
    iapply HK $$ Hp Hw Ho
  by_cases h6 : k0_cond6 i = 1#1
  · have e6 := x6.mp h6
    have h7 : ¬ k0_cond7 i = 1#1 := by rw [x7]; omega
    have h8 : ¬ k0_cond8 i = 1#1 := by rw [x8]; omega
    simp only [dif_neg h4, dif_neg h5, dif_pos h6, dif_neg h7, dif_neg h8, outBlk, k0_part1_eq_skeleton, k0_part1_skel, k0_part2_eq_skeleton, k0_part2_skel]
    iintro ⟨Hp, Hw, Ho, HK⟩
    iapply (wp_pb c S g _ (rect_sub S _ hS _ _ _ (by rw [k0_off15_eq]; rfl) rfl)) $$ [-]
    isplitl [Hp]; · iexact Hp
    iintro Hp
    iapply (wp_own c a3 w _) $$ [-]
    isplitl [Hw]; · iexact Hw
    iintro Hw
    iapply (wp_own c a3 w _) $$ [-]
    isplitl [Hw]; · iexact Hw
    iintro Hw
    iapply (wp_emit c a4 d _) $$ [-]
    isplitl [Ho]; · iexact Ho
    iintro Ho
    iapply (le_wp_ret _ _ _ _ _)
    iapply HK $$ Hp Hw Ho
  by_cases h7 : k0_cond7 i = 1#1
  · have e7 := x7.mp h7
    have h8 : ¬ k0_cond8 i = 1#1 := by rw [x8]; omega
    simp only [dif_neg h4, dif_neg h5, dif_neg h6, dif_pos h7, dif_neg h8, outBlk, k0_part1_eq_skeleton, k0_part1_skel, k0_part2_eq_skeleton, k0_part2_skel]
    iintro ⟨Hp, Hw, Ho, HK⟩
    iapply (wp_pb c S g _ (rect_sub S _ hS _ _ _ (by rw [k0_off16_eq]; rfl) rfl)) $$ [-]
    isplitl [Hp]; · iexact Hp
    iintro Hp
    iapply (wp_own c a3 w _) $$ [-]
    isplitl [Hw]; · iexact Hw
    iintro Hw
    iapply (wp_emit c a4 d _) $$ [-]
    isplitl [Ho]; · iexact Ho
    iintro Ho
    iapply (le_wp_ret _ _ _ _ _)
    iapply HK $$ Hp Hw Ho
  have h8 : k0_cond8 i = 1#1 := by rw [x8]; rw [x4] at h4; rw [x5] at h5; rw [x6] at h6; rw [x7] at h7; omega
  simp only [dif_neg h4, dif_neg h5, dif_neg h6, dif_neg h7, dif_pos h8, outBlk, k0_part1_eq_skeleton, k0_part1_skel, k0_part2_eq_skeleton, k0_part2_skel]
  iintro ⟨Hp, Hw, Ho, HK⟩
  iapply (wp_pb c S g _ (rect_sub S _ hS _ _ _ (by rw [k0_off17_eq]; rfl) rfl)) $$ [-]
  isplitl [Hp]; · iexact Hp
  iintro Hp
  iapply (wp_emit c a4 d _) $$ [-]
  isplitl [Ho]; · iexact Ho
  iintro Ho
  iapply (le_wp_ret _ _ _ _ _)
  iapply HK $$ Hp Hw Ho

end Cert.KernelIdeal.Hand
end
-- ==== Proof.PI.Run.lean ====
module

public import proofs.«01_k».proof.Proof.PI.Compute

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)
open Cert.KernelIdeal.Gen

variable {F : FTy → Type} [FloatOps F]

local notation "𝕄" => MT nD τ sig Unit (Elt F) ℕ (UD sig nD τ) ℕ

section point
variable (c : Dev nD)

theorem slot_in_offWin (b : ℕ) (j : S2x79x79x8x128.Idx) (h : (j 0).val = b % 2) : j ∈ offWin (slotN (b + 1)) :=
  Finset.mem_sdiff.mpr ⟨Finset.mem_univ _, fun hm => by
    have h' : (j 0).val = (b + 1) % 2 := ((mem_pbWin _ j).mp hm).1
    omega⟩

theorem padded_on (b : ℕ) (v : Xt F) (f : Pb F) (hf : Padded b v f) : ∀ j ∈ offWin (slotN (b + 1)), f j = padAt (slotN b) (physN b) v j :=
  fun j hj => hf j fun hw => (Finset.mem_sdiff.mp hj).2 ((mem_pbWin _ j).mpr hw)

/-- Block `b` padded in its slot can be read while the next copy flies, and is given back. -/
theorem ready_open (b : ℕ) (hb : b ≤ 11) (v : Xt F) (f : Pb F) (hf : Padded b v f) :
    Ready c b v f ⊢ (iprop(((c : Thread nD τ).loc cc0_scratch0 ↦[offWin (slotN (b + 1))]{fullShare} padAt (slotN b) (physN b) v)
      ∗ (((c : Thread nD τ).loc cc0_scratch0 ↦[offWin (slotN (b + 1))]{fullShare} padAt (slotN b) (physN b) v) -∗ Ready c b v f)) : sProp 𝕄) := by
  by_cases h : b < 11
  · rw [ready_of_lt c b v f h]
    unfold Flying
    iintro ⟨⟨HF, Hp, Hx⟩, Hs⟩
    isplitl [Hp]
    · iapply (Entails.of_eq (pointsTo_congr (padded_on b v f hf))) $$ Hp
    iintro Hp
    isplitr [Hs]
    · isplitl [HF]; · iexact HF
      isplitl [Hp]
      · iapply (Entails.of_eq (pointsTo_congr fun j hj => (padded_on b v f hf j hj).symm)) $$ Hp
      iexact Hx
    iexact Hs
  · obtain rfl : b = 11 := by omega
    rw [ready_last]
    unfold Resting
    iintro ⟨Hp, Hx, Hs⟩
    ihave Hp := (pointsTo_split_subset (Finset.subset_univ (offWin (slotN (11 + 1))))).1 $$ Hp
    icases Hp with ⟨Hp, Hr⟩
    isplitl [Hp]
    · iapply (Entails.of_eq (pointsTo_congr (padded_on 11 v f hf))) $$ Hp
    iintro Hp
    isplitr [Hx Hs]
    · iapply (pointsTo_split_subset (Finset.subset_univ (offWin (slotN (11 + 1))))).2
      isplitl [Hp]
      · iapply (Entails.of_eq (pointsTo_congr fun j hj => (padded_on 11 v f hf j hj).symm)) $$ Hp
      iexact Hr
    isplitl [Hx]; · iexact Hx
    iexact Hs

/-- One grid point's body: from what is held before it to what is held after it, its output block at `outBlk` of the padded block. -/
theorem wp_point {a3 : Memref sig .tc .vmem S16x8x128 .f32} {ha3 : a3.IsWhole} {a4 : Memref sig .tc .vmem S11x55x8x128 .f32} {ha4 : a4.IsWhole}
    {ha2 : (Memref.whole main_v0).IsWhole} {ha5 : (Memref.whole cc0_scratch0).IsWhole}
    (i : grid0.Coords) (t : ℕ) (ht : t < 60) (h0 : (i 0).val = t / 5) (h1 : (i 1).val = t % 5) (v : Xt F) (W : Waits sig Unit) (w : Wt F) (d : Blk F) (Q : PUnit → sProp 𝕄) :
    iprop(Held c v t ∗ owes (c : Thread nD τ) 0 W ∗ owns (c : Thread nD τ) a3 fullShare w ∗ owns (c : Thread nD τ) a4 fullShare d
        ∗ (∀ W' : Waits sig Unit, Held c v (t + 1) -∗ owes (c : Thread nD τ) 0 W' -∗ owns (c : Thread nD τ) a3 fullShare w
            -∗ owns (c : Thread nD τ) a4 fullShare (outBlk i (padAt (slotN (t / 5)) (physN (t / 5)) v) w) -∗ Q ⟨⟩))
      ⊢ (wp frame (wpE (defs₀ (F := F)) Variants.none c none) Set.univ (cc0__body (F := F) i (Memref.whole main_v0) ha2 a3 ha3 a4 ha4 (Memref.whole cc0_scratch0) ha5 cc0_scratch1) Q : sProp 𝕄) := by
  rw [body_eq, part3_eq, wp_bind]
  iintro ⟨HH, HO, Hw, Ho, HK⟩
  iapply (wp_start c i t ht h0 h1 v W (computePart i (Memref.whole main_v0) ha2 a3 ha3 a4 ha4 (Memref.whole cc0_scratch0) ha5 cc0_scratch1) _) $$ [-]
  isplitl [HH]; · iexact HH
  isplitl [HO]; · iexact HO
  iintro %f %W' %hf HR HO
  ihave HR := (ready_open c (t / 5) (by omega) v f hf) $$ HR
  icases HR with ⟨Hp, HB⟩
  rw [← wp_bind]
  iapply (wp_compute c i (offWin (slotN (t / 5 + 1))) (fun j hj => slot_in_offWin _ j (hj.trans (by rw [h0]))) _ w d Q) $$ [-]
  isplitl [Hp]; · iexact Hp
  isplitl [Hw]; · iexact Hw
  isplitl [Ho]; · iexact Ho
  iintro Hp Hw Ho
  iapply HK $$ [HB Hp] HO Hw Ho
  unfold Held
  iexists f
  isplitr
  · ipureintro; exact hf
  iapply HB $$ Hp

end point

variable (m : (ℓ : Loc nD τ sig) → Buf (Elt F) ℓ) (ρ : Dev nD → PrngReg)

/-- The block window `1` writes at point `t`. -/
def outAt (c : Dev nD) (t : Fin cfg0.N) : Blk F :=
  outBlk (grid0.coords t) (padAt (slotN (t.val / 5)) (physN (t.val / 5)) (V m c main_v0)) (iblk m c 0 t)

/-- The proof data of the pipeline on core `c`. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => outAt m c t
  Φ t := iprop(Held c (V m c main_v0) t.val ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The weights' window holds the weights at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem coords_val : ∀ t : Fin grid0.N, (grid0.coords t 0).val = t.val / 5 ∧ (grid0.coords t 1).val = t.val % 5 := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ (wp frame (wpE (defs₀ (F := F)) Variants.none c none) Set.univ (bodyAt0 t) (fun _ => bodyPost m c t) : sProp 𝕄) := by
  unfold bodyPre bodyPost bodyAt0
  rw [show (dats m 0 c).Φ t.castSucc = iprop(Held c (V m c main_v0) t.val ∗ ∃ r, prngReg c r) from rfl,
    show (dats m 0 c).Φ t.succ = iprop(Held c (V m c main_v0) (t.val + 1) ∗ ∃ r, prngReg c r) from rfl, after0_0, after0_1]
  unfold Dat.owesAt Pipeline.owesWithin
  rw [show (dats m 0 c).owed t.castSucc = 0 from rfl, show (dats m 0 c).owed t.succ = 0 from rfl]
  iintro ⟨⟨HH, Hg⟩, ⟨%W, -, HW⟩, ⟨%d0, H0⟩, ⟨%d1, H1⟩⟩
  rw [before0_0]
  iapply (wp_point c (grid0.coords t) t.val (lt_of_lt_of_eq t.isLt N_0) (coords_val t).1 (coords_val t).2 (V m c main_v0) W (iblk m c 0 t) _ _) $$ [-]
  isplitl [HH]; · iexact HH
  isplitl [HW]; · iexact HW
  isplitl [H0]; · iexact H0
  isplitl [H1]; · iexact H1
  iintro %W' HH HW H0 H1
  isplitl [HH Hg]
  · isplitl [HH]; · iexact HH
    iexact Hg
  isplitl [HW]
  · iexists W'
    isplitr
    · ipureintro; exact fun _ _ => Or.inl trivial
    iexact HW
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

/-- Every point stores its output block. -/
theorem idle_never : ∀ i : grid0.Coords, idle0 1 i = false := by decide +kernel

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [show cfg0.idle 1 (cfg0.grid.coords t) = false from idle_never _]
  exact .rfl

/-! ## The run -/

set_option maxHeartbeats 800000 in
theorem hmain : Pipeline.HMainK (Ix := Unit) (Name := ℕ) (U := UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The transpose after the region reads and writes neither the buffer the kernel's own copies read, nor anything of the region but its result. -/
theorem sfx_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut Pipeline.Prefetch.none spec0 H0 _ ((List.forall_iff_forall_mem.mp hostOps1_sub) _ (by simp [hostOps1])) (fun k => k.elim0) fun b hb => ?_
  obtain rfl : b = main_v0 := Finset.mem_singleton.mp hb
  rw [StableHlo.unary_bufs]
  decide

theorem sems_eq (c : Dev nD) : (Pipeline.ownSems0 (τ := τ) (Val := Elt F) (Ix := Unit) (Name := ℕ) (U := UD sig nD τ) (Lvl := ℕ) osem0 c : sProp 𝕄)
    = iprop(semVal ((c : Thread nD τ), .dma (cell 0)) 0 ∗ semVal ((c : Thread nD τ), .dma (cell 1)) 0) :=
  Pipeline.ownSems0_eq_of_list c osem0 [0, 1] (by decide) (by decide)

theorem phi_in (c : Dev nD) : Pipeline.ΦD osem0 spec0 H0 (V m) c ⊢ (dats m 0 c).Φ 0 := by
  rw [show (dats m 0 c).Φ 0 = iprop(Held c (V m c main_v0) 0 ∗ ∃ r, prngReg c r) from rfl]
  rw [Pipeline.ΦD_eq, scopedRest0_eq, sems_eq c, BI.bigSep_eq_bigSepL_of_eq [main_v0] (by decide) (by decide), BI.bigSepL_singleton]
  unfold Held Resting
  iintro ⟨⟨%f, Hp⟩, Hg, ⟨Hs0, Hs1⟩, Hx⟩
  isplitr [Hg]
  · iexists f
    isplitl [Hp]; · iexact Hp
    isplitl [Hx]; · iexact Hx
    isplitl [Hs0]; · iexact Hs0
    iexact Hs1
  iexact Hg

theorem phi_out (c : Dev nD) : (dats m 0 c).Φ (Fin.last cfg0.N) ⊢ Pipeline.ΦD osem0 spec0 H0 (V m) c := by
  rw [show (dats m 0 c).Φ (Fin.last cfg0.N) = iprop(Held c (V m c main_v0) 60 ∗ ∃ r, prngReg c r) from by
    show iprop(Held c (V m c main_v0) cfg0.N ∗ ∃ r, prngReg c r) = _
    rw [show cfg0.N = 60 from N_0]]
  rw [Pipeline.ΦD_eq, scopedRest0_eq, sems_eq c, BI.bigSep_eq_bigSepL_of_eq [main_v0] (by decide) (by decide), BI.bigSepL_singleton]
  rw [show Held c (V m c main_v0) 60 = iprop(∃ f : Pb F, ⌜Padded 11 (V m c main_v0) f⌝ ∗ Ready c 11 (V m c main_v0) f) from rfl]
  simp only [ready_last]
  unfold Resting
  iintro ⟨⟨%f, %hf, Hp, Hx, Hs0, Hs1⟩, Hg⟩
  isplitl [Hp]; · iexists f; iexact Hp
  isplitl [Hg]; · iexact Hg
  isplitl [Hs0 Hs1]
  · isplitl [Hs0]; · iexact Hs0
    iexact Hs1
  iexact Hx

set_option backward.isDefEq.respectTransparency.types false in
/-- The whole program runs to the frame's post, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m) (hA := A_eq m) (hin := phi_in m) (hout := phi_out m)

end Cert.KernelIdeal.Hand
end
-- ==== Proof.PI.Frame.lean ====
/-
  The frame claim of the kernel's @main: it runs to the end, both arguments end as launched and every semaphore
  counter is back at zero.
-/
module

public import proofs.«01_k».proof.Proof.PI.Run

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- What @main's last host line leaves in an argument array is what was launched: no host line writes it and no window
    is staged from it. -/
theorem tail_arg (c : Dev nD) (b : Ref sig .tc) (hv : V m c b = m ((c : Thread nD τ).loc b)) (hb : b ≠ main_v25)
    (hw : ∀ w, Pipeline.arrRef spec0 w ≠ b) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        Finset.mem_singleton]
      exact StableHlo.devRef_ne_of_ne hb)),
    Pipeline.withArrays_of_ne _ c (V0 m c) _ b hw]
  exact hv

/-- @main terminates without a fault from every memory with zero counters; both arguments end unchanged and every
    semaphore reads zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans
          (tail_arg m c _ (V_main_arg0 m c) (by decide) (by decide)),
        ((h.1 c).2 main_arg1 (Pipeline.mem_restRefs_of main_arg1 (by decide) (by decide))).trans
          (tail_arg m c _ (V_main_arg1 m c) (by decide) (by decide))⟩, h.2⟩) (run_main m ρ)

end Cert.KernelIdeal.Hand

end
-- ==== Proof.Val.Block.lean ====
module

public import proofs.«01_k».proof.Proof.PI.Run
public import Idealize.ShloMosaic.Lib.Pipeline.ValueKit

@[expose] public section

set_option maxRecDepth 16384

noncomputable section

/-! # What one output block holds, element by element

`P p q r l` stands for the padded channel block: row `p`, column `q` of the padded picture, channel `r` of the block, sample `l`. -/

namespace Cert.KernelIdeal.Hand

open Idealize.ShloMosaic
open Cert.KernelIdeal.Gen

/-- The padded channel block as a function of natural coordinates. -/
abbrev Pad := ℕ → ℕ → Fin 8 → Fin 128 → EReal

/-- Slot `s` of the scratch holds the padded block `P`. -/
def Holds (g : Pb Ideal) (s : ℕ) (P : Pad) : Prop := ∀ j, (j 0).val = s → g j = P (j 1).val (j 2).val (j 3) (j 4)

/-- A box of slot `s` with its leading axis dropped, read at an index. -/
theorem box_read {H W : ℕ} {g : Pb Ideal} {s : ℕ} {P : Pad} (hg : Holds g s P) (o : Fin 5 → ℕ) (R Q : ℕ) (ho : o = ![s, R, Q, 0, 0])
    (hin : ∀ a, o a + (![1, H, W, 8, 128] : Fin 5 → ℕ) a ≤ S2x79x79x8x128.size a)
    (hc : Shape.ShapeCasts ⟨5, ![1, H, W, 8, 128]⟩ ⟨4, ![H, W, 8, 128]⟩) (z : Shape.Idx ⟨4, ![H, W, 8, 128]⟩) :
    shapeCast ⟨4, ![H, W, 8, 128]⟩ (pick g (Rect.unit (s := S2x79x79x8x128) o ![1, H, W, 8, 128] hin)) hc z
      = P (R + (z 0).val) (Q + (z 1).val) (z 2) (z 3) := by
  subst ho
  unfold shapeCast
  rw [show Shape.reshapeEquiv hc z = Fin.cons ⟨0, Nat.one_pos⟩ z from Shape.reshapeEquiv_cons_one (d := ![H, W, 8, 128]) hc z]
  refine (hg _ ?_).trans ?_
  · rw [Rect.emb_apply]; rfl
  · have e1 : ((Rect.unit (s := S2x79x79x8x128) ![s, R, Q, 0, 0] ![1, H, W, 8, 128] hin).emb (Fin.cons ⟨0, Nat.one_pos⟩ z) 1).val = R + (z 0).val := by
      rw [Rect.emb_apply]; show R + 1 * (z 0).val = _; omega
    have e2 : ((Rect.unit (s := S2x79x79x8x128) ![s, R, Q, 0, 0] ![1, H, W, 8, 128] hin).emb (Fin.cons ⟨0, Nat.one_pos⟩ z) 2).val = Q + (z 1).val := by
      rw [Rect.emb_apply]; show Q + 1 * (z 1).val = _; omega
    have e3 : (Rect.unit (s := S2x79x79x8x128) ![s, R, Q, 0, 0] ![1, H, W, 8, 128] hin).emb (Fin.cons ⟨0, Nat.one_pos⟩ z) 3 = z 2 := by
      apply Fin.ext; rw [Rect.emb_apply]; show 0 + 1 * (z 2).val = _; omega
    have e4 : (Rect.unit (s := S2x79x79x8x128) ![s, R, Q, 0, 0] ![1, H, W, 8, 128] hin).emb (Fin.cons ⟨0, Nat.one_pos⟩ z) 4 = z 3 := by
      apply Fin.ext; rw [Rect.emb_apply]; show 0 + 1 * (z 3).val = _; omega
    rw [e1, e2, e3, e4]

/-- A slice of such a box at offset `(dh, dw)`: the tap of the padded block at that offset. -/
theorem tap_read {H W : ℕ} {g : Pb Ideal} {s : ℕ} {P : Pad} (hg : Holds g s P) (o : Fin 5 → ℕ) (R Q : ℕ) (ho : o = ![s, R, Q, 0, 0])
    (hin : ∀ a, o a + (![1, H, W, 8, 128] : Fin 5 → ℕ) a ≤ S2x79x79x8x128.size a)
    (hc : Shape.ShapeCasts ⟨5, ![1, H, W, 8, 128]⟩ ⟨4, ![H, W, 8, 128]⟩) (dh dw : ℕ)
    (hs : Shape.Slices ⟨4, ![H, W, 8, 128]⟩ ![dh, dw, 0, 0] S11x55x8x128) (y : S11x55x8x128.Idx) :
    extractStridedSlice (s := ⟨4, ![H, W, 8, 128]⟩) S11x55x8x128 ![dh, dw, 0, 0]
        (shapeCast ⟨4, ![H, W, 8, 128]⟩ (pick g (Rect.unit (s := S2x79x79x8x128) o ![1, H, W, 8, 128] hin)) hc) hs y
      = P (R + (dh + (y 0).val)) (Q + (dw + (y 1).val)) (y 2) (y 3) := by
  have b0 : dh + 11 ≤ H := hs.2 0
  have b1 : dw + 55 ≤ W := hs.2 1
  have y0 : (y 0).val < 11 := (y 0).isLt
  have y1 : (y 1).val < 55 := (y 1).isLt
  refine (extractStridedSlice_apply (s := ⟨4, ![H, W, 8, 128]⟩) _ _ hs y (ix4 ⟨dh + (y 0).val, by omega⟩ ⟨dw + (y 1).val, by omega⟩ (y 2) (y 3)) ?_).trans
    (box_read hg o R Q ho hin hc _)
  intro a
  match a with
  | ⟨0, _⟩ => rfl
  | ⟨1, _⟩ => rfl
  | ⟨2, _⟩ => exact (Nat.zero_add _).symm
  | ⟨3, _⟩ => exact (Nat.zero_add _).symm

/-- The two casts of a row of weights keep its elements. -/
theorem row_cast (w : S1x8x128.Idx → EReal) (h1 : S1x8x128.ShapeCasts S1x8x128) (h2 : S1x8x128.ShapeCasts S1x1x8x128) (r : Fin 8) (l : Fin 128) :
    shapeCast S1x1x8x128 (shapeCast S1x8x128 w h1) h2 (ix4 0 0 r l : S1x1x8x128.Idx) = w (ix3 0 r l : S1x8x128.Idx) := by
  refine (shapeCast_apply _ h2 _ (ix3 0 r l : S1x8x128.Idx) ?_).trans (shapeCast_apply _ h1 _ (ix3 0 r l : S1x8x128.Idx) rfl)
  rw [show (ix4 0 0 r l : S1x1x8x128.Idx) = Fin.cons ⟨0, Nat.one_pos⟩ (ix3 0 r l : S1x8x128.Idx) from by
    funext a; match a with | ⟨0, _⟩ => rfl | ⟨1, _⟩ => rfl | ⟨2, _⟩ => rfl | ⟨3, _⟩ => rfl]
  show ((Shape.rowMajorPi ![1, 8, 128] (ix3 0 r l : S1x8x128.Idx) : Fin _) : ℕ)
    = (Shape.rowMajorPi (Matrix.vecCons 1 ![1, 8, 128]) (Fin.cons ⟨0, Nat.one_pos⟩ (ix3 0 r l : S1x8x128.Idx)) : Fin _)
  rw [Shape.rowMajorPi_succ_val]
  exact (Nat.zero_mul _ ▸ Nat.zero_add _).symm

/-- One row of weights spread over a block, read at an index. -/
theorem weight_read (w : Wt Ideal) (o : Fin 3 → ℕ) (k : Fin 16) (ho : o = ![k.val, 0, 0])
    (hin : ∀ a, o a + S1x8x128.size a ≤ S16x8x128.size a) (h1 : S1x8x128.ShapeCasts S1x8x128) (h2 : S1x8x128.ShapeCasts S1x1x8x128)
    (h3 : S1x1x8x128.Broadcasts S11x55x8x128) (y : S11x55x8x128.Idx) (r : Fin 8) (l : Fin 128) (hr : y 2 = r) (hl : y 3 = l) :
    broadcastTo S11x55x8x128 (shapeCast S1x1x8x128 (shapeCast S1x8x128 (pick w (Rect.unit (s := S16x8x128) o S1x8x128.size hin)) h1) h2) h3 y
      = w (ix3 k r l : S16x8x128.Idx) := by
  subst ho
  refine (broadcastTo_apply _ h3 y (ix4 0 0 r l : S1x1x8x128.Idx) ?_).trans ((row_cast _ h1 h2 r l).trans ?_)
  · intro a
    match a with
    | ⟨0, _⟩ => rfl
    | ⟨1, _⟩ => rfl
    | ⟨2, _⟩ => exact congrArg Fin.val hr.symm
    | ⟨3, _⟩ => exact congrArg Fin.val hl.symm
  · refine congrArg w (funext fun a => Fin.ext ?_)
    rw [Rect.emb_apply]
    match a with
    | ⟨0, _⟩ => show k.val + 1 * 0 = k.val; omega
    | ⟨1, _⟩ => show 0 + 1 * r.val = r.val; omega
    | ⟨2, _⟩ => show 0 + 1 * l.val = l.val; omega

end Cert.KernelIdeal.Hand
end
-- ==== Proof.Val.Kinds.lean ====
module

public import proofs.«01_k».proof.Proof.Val.Block

@[expose] public section

set_option maxRecDepth 16384

noncomputable section

/-! # The five kinds of output block, as sums of taps -/

namespace Cert.KernelIdeal.Hand

open Idealize.ShloMosaic
open Cert.KernelIdeal.Gen

/-- Eight numbers added as a balanced tree. -/
def sum8 (z : Fin 8 → EReal) : EReal := ((z 0 + z 1) + (z 2 + z 3)) + ((z 4 + z 5) + (z 6 + z 7))

/-- The positions along one arm of the cross. -/
def armA : Fin 8 → ℕ := ![0, 3, 6, 9, 15, 18, 21, 24]
/-- The same positions from the other end. -/
def armB : Fin 8 → ℕ := ![24, 21, 18, 15, 9, 6, 3, 0]
/-- The rows and columns of the first curve. -/
def curR : Fin 8 → ℕ := ![1, 4, 6, 9, 15, 17, 20, 23]
def curC : Fin 8 → ℕ := ![8, 9, 10, 11, 13, 14, 15, 16]
/-- The rows and columns of the curve leaning back. -/
def bakR : Fin 8 → ℕ := ![1, 3, 7, 10, 14, 17, 21, 23]
def bakC : Fin 8 → ℕ := ![17, 16, 14, 13, 11, 10, 8, 7]

section
variable (i : grid0.Coords) (g : Pb Ideal) (w : Wt Ideal) (P : Pad) (y : S11x55x8x128.Idx) (r : Fin 8) (l : Fin 128)

/-- The tap `(dh, dw)` at element `y` of the block. -/
def tap (dh dw : ℕ) : EReal := P (11 * (i 1).val + (dh + (y 0).val)) (dw + (y 1).val) (y 2) (y 3)

variable (hg : Holds g ((i 0).val % 2) P) (hr : y 2 = r) (hl : y 3 = l)
include hg hr hl

theorem out_cross (h : (i 0).val = 0 ∨ (i 0).val = 6) :
    outBlk i g w y = tap i P y 12 12 + (sum8 (fun n => tap i P y 12 (armA n)) - sum8 (fun n => tap i P y (armA n) 12))
      * w (ix3 (if (i 0).val = 0 then 0 else 3) r l : S16x8x128.Idx) := by
  have h4 : k0_cond4 i = 1#1 := (cond4_iff i).2 h
  have e13 : k0_off13 i = ![((if (i 0).val = 0 then 0 else 3 : Fin 16) : Fin 16).val, 0, 0] := by
    rw [k0_off13_eq]; split <;> rfl
  rw [outBlk, dif_pos h4]
  unfold k0_pay13 k0_pay3 k0_pay4 k0_pay2 k0_pay5
  simp only [addf_apply, subf_apply, mulf_apply, tap_read hg _ _ _ (k0_off11_eq i), tap_read hg _ _ _ (k0_off12_eq i)]
  rw [weight_read w _ _ e13 _ _ _ _ y r l hr hl]
  simp only [sum8, tap, armA, Matrix.cons_val, Nat.zero_add, Nat.add_assoc]
  rfl

theorem out_curve (h : (i 0).val = 3) :
    outBlk i g w y = tap i P y 12 12 + sum8 (fun n => tap i P y (curR n) (curC n)) * w (ix3 4 r l : S16x8x128.Idx) := by
  have h4 : ¬ k0_cond4 i = 1#1 := by rw [cond4_iff]; omega
  have h5 : k0_cond5 i = 1#1 := (cond5_iff i).2 h
  rw [outBlk, dif_neg h4, dif_pos h5]
  unfold k0_pay14
  simp only [addf_apply, mulf_apply, tap_read hg _ _ _ (k0_off14_eq i)]
  rw [weight_read w ![4, 0, 0] 4 rfl _ _ _ _ y r l hr hl]
  simp only [sum8, tap, curR, curC, Matrix.cons_val, Nat.zero_add, Nat.add_assoc]
  rfl

theorem out_both (h : (i 0).val = 4) :
    outBlk i g w y = tap i P y 12 12 + (sum8 (fun n => tap i P y (armA n) (armA n)) - sum8 (fun n => tap i P y (armA n) (armB n)))
        * w (ix3 5 r l : S16x8x128.Idx)
      + sum8 (fun n => tap i P y (curR n) (curC n)) * w (ix3 7 r l : S16x8x128.Idx) := by
  have h4 : ¬ k0_cond4 i = 1#1 := by rw [cond4_iff]; omega
  have h5 : ¬ k0_cond5 i = 1#1 := by rw [cond5_iff]; omega
  have h6 : k0_cond6 i = 1#1 := (cond6_iff i).2 h
  rw [outBlk, dif_neg h4, dif_neg h5, dif_pos h6]
  unfold k0_pay15 k0_pay7 k0_pay8 k0_pay9 k0_pay10 k0_pay11 k0_pay6
  simp only [addf_apply, subf_apply, mulf_apply, tap_read hg _ _ _ (k0_off15_eq i)]
  rw [weight_read w ![5, 0, 0] 5 rfl _ _ _ _ y r l hr hl, weight_read w ![7, 0, 0] 7 rfl _ _ _ _ y r l hr hl]
  simp only [sum8, tap, armA, armB, curR, curC, Matrix.cons_val, Nat.zero_add, Nat.add_assoc]
  rfl

theorem out_back (h : (i 0).val = 10) :
    outBlk i g w y = tap i P y 12 12 + sum8 (fun n => tap i P y (bakR n) (bakC n)) * w (ix3 8 r l : S16x8x128.Idx) := by
  have h4 : ¬ k0_cond4 i = 1#1 := by rw [cond4_iff]; omega
  have h5 : ¬ k0_cond5 i = 1#1 := by rw [cond5_iff]; omega
  have h6 : ¬ k0_cond6 i = 1#1 := by rw [cond6_iff]; omega
  have h7 : k0_cond7 i = 1#1 := (cond7_iff i).2 h
  rw [outBlk, dif_neg h4, dif_neg h5, dif_neg h6, dif_pos h7]
  unfold k0_pay16
  simp only [addf_apply, mulf_apply, tap_read hg _ _ _ (k0_off16_eq i)]
  rw [weight_read w ![8, 0, 0] 8 rfl _ _ _ _ y r l hr hl]
  simp only [sum8, tap, bakR, bakC, Matrix.cons_val, Nat.zero_add, Nat.add_assoc]
  rfl

theorem out_copy (h : ¬ ((i 0).val = 0 ∨ (i 0).val = 6 ∨ (i 0).val = 3 ∨ (i 0).val = 4 ∨ (i 0).val = 10)) :
    outBlk i g w y = tap i P y 12 12 := by
  have h4 : ¬ k0_cond4 i = 1#1 := by rw [cond4_iff]; omega
  have h5 : ¬ k0_cond5 i = 1#1 := by rw [cond5_iff]; omega
  have h6 : ¬ k0_cond6 i = 1#1 := by rw [cond6_iff]; omega
  have h7 : ¬ k0_cond7 i = 1#1 := by rw [cond7_iff]; omega
  rw [outBlk, dif_neg h4, dif_neg h5, dif_neg h6, dif_neg h7, dif_pos ((cond8_iff i).2 h)]
  unfold k0_pay1
  refine (box_read hg _ _ _ (k0_off17_eq i) _ _ y).trans ?_
  simp only [tap, Nat.add_assoc]

end

end Cert.KernelIdeal.Hand
end
-- ==== Proof.Val.Host.lean ====
module

public import proofs.«01_k».proof.Proof.Val.Kinds
public import Idealize.ShloMosaic.Lib.Claim
public import Idealize.ShloMosaic.Lib.StableHlo.ReadAt

@[expose] public section

set_option maxRecDepth 16384

noncomputable section

/-! # What the host lines hand the kernel -/

namespace Cert.KernelIdeal.Hand

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- The image as the kernel sees it: the argument with the samples moved last. -/
theorem image_read (a b : Fin 55) (ch : Fin 96) (n : Fin 128) :
    V m c main_v0 (ix4 a b ch n : S55x55x96x128.Idx) = m ((c.tc : Thread nD τ).loc main_arg0) (ix4 n a b ch : S128x55x55x96.Idx) := by
  entry_read
  refine transpose_apply _ _ transposes_S128x55x55x96_S55x55x96x128_1_2_3_0 _ _ ?_
  intro b
  match b with
  | ⟨0, _⟩ => rfl
  | ⟨1, _⟩ => rfl
  | ⟨2, _⟩ => rfl
  | ⟨3, _⟩ => rfl

/-- One element of the weights' gather: the mask element its three index words name. -/
theorem gather_read (x : S96x25x25.Idx → EReal) (idx : IVec S128x3 32) (q : Fin 128) (a : Fin 96) (b d : Fin 25)
    (ha : (idx (ix2 q 0 : S128x3.Idx)).toInt.toNat = a.val) (hb : (idx (ix2 q 1 : S128x3.Idx)).toInt.toNat = b.val)
    (hd : (idx (ix2 q 2 : S128x3.Idx)).toInt.toNat = d.val) :
    Host.gather gather_S96x25x25_S128x3_S128_n_012_n_n_012_1_111 x idx (ix1 q : S128.Idx) = x (ix3 a b d : S96x25x25.Idx) := by
  unfold Host.gather
  refine congrArg x (funext fun e => Fin.ext ?_)
  show GatherDims.start _ _ idx e + GatherDims.batchCoord _ _ e + GatherDims.offCoord _ _ e = _
  rw [GatherDims.batchCoord_eq_zero _ _ _ List.not_mem_nil, GatherDims.offCoord_eq_zero _ _ _ (fun h =>
    ((GatherDims.mem_sKept _ _).mp h).1 (by show e ∈ ([0, 1, 2] : List (Fin 3)); revert e; decide))]
  unfold GatherDims.start
  rw [dif_pos (show e ∈ GatherDims.startIndexMap gather_S96x25x25_S128x3_S128_n_012_n_n_012_1_111 from by
    show e ∈ ([0, 1, 2] : List (Fin 3)); revert e; decide)]
  have hs : ∀ k : Fin 3, GatherDims.siIdx gather_S96x25x25_S128x3_S128_n_012_n_n_012_1_111 (ix1 q : S128.Idx) k = (ix2 q k : S128x3.Idx) := fun k => by
    funext b; match b with | ⟨0, _⟩ => rfl | ⟨1, _⟩ => rfl
  match e with
  | ⟨0, _⟩ => exact (congrArg (fun z => min (idx z).toInt.toNat 95) (hs 0)).trans (by
      show min (idx (ix2 q 0 : S128x3.Idx)).toInt.toNat 95 = a.val; have := a.isLt; omega)
  | ⟨1, _⟩ => exact (congrArg (fun z => min (idx z).toInt.toNat 24) (hs 1)).trans (by
      show min (idx (ix2 q 1 : S128x3.Idx)).toInt.toNat 24 = b.val; have := b.isLt; omega)
  | ⟨2, _⟩ => exact (congrArg (fun z => min (idx z).toInt.toNat 24) (hs 2)).trans (by
      show min (idx (ix2 q 2 : S128x3.Idx)).toInt.toNat 24 = d.val; have := d.isLt; omega)

/-- Three columns of index words side by side, read in each. -/
theorem columns_read (x : Fin 3 → S128x1.Idx → BitVec 32) (q : Fin 128) (k : Fin 3) :
    concatenate S128x3 1 [⟨S128x1, x 0⟩, ⟨S128x1, x 1⟩, ⟨S128x1, x 2⟩] concatenates_S128x1_S128x1_S128x1_S128x3_d1 (ix2 q k : S128x3.Idx)
      = x k (ix2 q 0 : S128x1.Idx) := by
  have off : ∀ b : Fin 2, b ≠ 1 → ((ix2 q 0 : S128x1.Idx) b).val = ((ix2 q k : S128x3.Idx) b).val := fun b hb => by
    match b with
    | ⟨0, _⟩ => rfl
    | ⟨1, _⟩ => exact absurd rfl hb
  match k with
  | ⟨0, _⟩ => exact concatenate_apply_piece (t := S128x3) 1 [⟨S128x1, x 0⟩, ⟨S128x1, x 1⟩, ⟨S128x1, x 2⟩] _ _ 0 (by simp) S128x1 (x 0) rfl rfl 0 rfl _ off rfl
  | ⟨1, _⟩ => exact concatenate_apply_piece (t := S128x3) 1 [⟨S128x1, x 0⟩, ⟨S128x1, x 1⟩, ⟨S128x1, x 2⟩] _ _ 1 (by simp) S128x1 (x 1) rfl rfl 1 rfl _ off rfl
  | ⟨2, _⟩ => exact concatenate_apply_piece (t := S128x3) 1 [⟨S128x1, x 0⟩, ⟨S128x1, x 1⟩, ⟨S128x1, x 2⟩] _ _ 2 (by simp) S128x1 (x 2) rfl rfl 2 rfl _ off rfl

/-- The mask's channel, row and column that weight `q` is read from. -/
def chanOf (q : Fin 128) : Fin 96 := ⟨(lit0 q).toNat % 96, Nat.mod_lt _ (by decide)⟩
def rowOf (q : Fin 128) : Fin 25 := ⟨(lit1 q).toNat % 25, Nat.mod_lt _ (by decide)⟩
def colOf (q : Fin 128) : Fin 25 := ⟨(lit2 q).toNat % 25, Nat.mod_lt _ (by decide)⟩

theorem chan_word : ∀ q : Fin 128, (Scalar.select (IntOp.cmpi .slt (lit0 q) 0#32) (IntOp.addi (lit0 q) 96#32) (lit0 q)).toInt.toNat = (chanOf q).val := by
  decide +kernel
theorem row_word : ∀ q : Fin 128, (Scalar.select (IntOp.cmpi .slt (lit1 q) 0#32) (IntOp.addi (lit1 q) 25#32) (lit1 q)).toInt.toNat = (rowOf q).val := by
  decide +kernel
theorem col_word : ∀ q : Fin 128, (Scalar.select (IntOp.cmpi .slt (lit2 q) 0#32) (IntOp.addi (lit2 q) 25#32) (lit2 q)).toInt.toNat = (colOf q).val := by
  decide +kernel

/-- A flat array's index is its own position. -/
theorem flat_pos (q : Fin 128) : S128.rowMajor (ix1 q : S128.Idx) = q := by
  apply Fin.ext
  show ((Shape.rowMajorPi (Matrix.vecCons 128 ![]) (ix1 q : S128.Idx) : Fin _) : ℕ) = q.val
  show q.val * 1 + 0 = q.val
  omega

/-- The weights window: row `k`, channel `r`, any sample. -/
theorem weights_read (k : Fin 16) (r : Fin 8) (l : Fin 128) (q : Fin 128) (hq : q.val = k.val * 8 + r.val) :
    V m c main_v23 (ix3 k r l : S16x8x128.Idx) = m ((c.tc : Thread nD τ).loc main_arg1) (ix3 (chanOf q) (rowOf q) (colOf q) : S96x25x25.Idx) := by
  obtain rfl : q = ⟨k.val * 8 + r.val, by have := k.isLt; have := r.isLt; clear hq q; omega⟩ := Fin.ext hq
  unfold V
  after_reads_at
  refine gather_read _ _ _ _ _ _ ?_ ?_ ?_
  · refine (congrArg (fun z : BitVec 32 => z.toInt.toNat) (columns_read ![_, _, _] ⟨k.val * 8 + r.val, _⟩ 0)).trans ?_
    dsimp only [Matrix.cons_val]
    after_reads_at
    after_results_simp
    rw [flat_pos]
    exact chan_word _
  · refine (congrArg (fun z : BitVec 32 => z.toInt.toNat) (columns_read ![_, _, _] ⟨k.val * 8 + r.val, _⟩ 1)).trans ?_
    dsimp only [Matrix.cons_val]
    after_reads_at
    after_results_simp
    rw [flat_pos]
    exact row_word _
  · refine (congrArg (fun z : BitVec 32 => z.toInt.toNat) (columns_read ![_, _, _] ⟨k.val * 8 + r.val, _⟩ 2)).trans ?_
    dsimp only [Matrix.cons_val]
    after_reads_at
    after_results_simp
    rw [flat_pos]
    exact col_word _

end Cert.KernelIdeal.Hand
end
-- ==== Proof.Val.Common.lean ====
module

public import Idealize.ShloMosaic.PureOps
public import Idealize.ShloMosaic.Lib.Pointwise

@[expose] public section

noncomputable section

/-! # The value both programs compute: a correlation of the framed image with the masks, plus the image -/

namespace Cert.Lateral

open Idealize.ShloMosaic

/-- The images and the masks. -/
abbrev Image := (⟨4, ![128, 55, 55, 96]⟩ : Shape).Idx → EReal
abbrev Masks := (⟨3, ![96, 25, 25]⟩ : Shape).Idx → EReal

/-- Channel `ch` of sample `n` inside a frame of twelve zero rows and columns. -/
def framed (X : Image) (n : Fin 128) (ch : Fin 96) (p q : ℕ) : EReal :=
  if h : (12 ≤ p ∧ p < 67) ∧ (12 ≤ q ∧ q < 67) then X (ix4 n ⟨p - 12, by omega⟩ ⟨q - 12, by omega⟩ ch) else 0

theorem framed_in (X : Image) (n : Fin 128) (ch : Fin 96) (p q : ℕ) (h : (12 ≤ p ∧ p < 67) ∧ (12 ≤ q ∧ q < 67)) :
    framed X n ch p q = X (ix4 n ⟨p - 12, by omega⟩ ⟨q - 12, by omega⟩ ch) := dif_pos h

theorem framed_out (X : Image) (n : Fin 128) (ch : Fin 96) (p q : ℕ) (h : ¬ ((12 ≤ p ∧ p < 67) ∧ (12 ≤ q ∧ q < 67))) :
    framed X n ch p q = 0 := dif_neg h

/-- The correlation of that with the channel's mask at `(a, b)`, plus the image there. -/
def lateral (X : Image) (K : Masks) (n : Fin 128) (a b : Fin 55) (ch : Fin 96) : EReal :=
  (∑ u : Fin 25 × Fin 25, framed X n ch (a.val + u.1.val) (b.val + u.2.val) * K (ix3 ch u.1 u.2)) + X (ix4 n a b ch)

/-- In the middle of a window stands the image itself. -/
theorem framed_centre (X : Image) (n : Fin 128) (ch : Fin 96) (a b : Fin 55) :
    framed X n ch (a.val + 12) (b.val + 12) = X (ix4 n a b ch) := by
  have ha := a.isLt
  have hb := b.isLt
  unfold framed
  rw [dif_pos (by omega)]
  have e : (⟨a.val + 12 - 12, by omega⟩ : Fin 55) = a := Fin.ext (by show a.val + 12 - 12 = a.val; omega)
  have f : (⟨b.val + 12 - 12, by omega⟩ : Fin 55) = b := Fin.ext (by show b.val + 12 - 12 = b.val; omega)
  rw [e, f]

end Cert.Lateral
-- ==== Proof.Val.Mask.lean ====
module

public import proofs.«01_k».proof.Proof.Val.Common
public import proofs.«01_k».proof.Proof.Val.Kinds
public import proofs.«01_k».proof.Proof.Gen.Pre_coaligned
public import Idealize.ShloMosaic.Lib.KernelVsHost

@[expose] public section

set_option maxRecDepth 16384

noncomputable section

/-! # What the precondition says: every element is finite, and the masks have their layout -/

namespace Cert.Lateral

open Idealize.ShloMosaic Cert.Pre_coaligned Cert.Pre_coaligned.Gen
open Cert.KernelIdeal.Hand (armA armB curR curC bakR bakC)

/-! ## The layout -/

/-- Place `(a, b)` of a mask is one of the eight taps with rows `r` and columns `s`. -/
def Hits (r s : Fin 8 → ℕ) (u : Fin 25 × Fin 25) : Prop := ∃ n, r n = u.1.val ∧ s n = u.2.val

instance (r s : Fin 8 → ℕ) (u : Fin 25 × Fin 25) : Decidable (Hits r s u) := by unfold Hits; infer_instance

/-- The row and the column through the middle. -/
def mid : Fin 8 → ℕ := fun _ => 12

/-- The channels that carry each shape. -/
def Cross (c : Fin 96) : Prop := c.val < 16
def Both (c : Fin 96) : Prop := 64 ≤ c.val ∧ c.val < 72
def Curve (c : Fin 96) : Prop := 48 ≤ c.val ∧ c.val < 56
def Back (c : Fin 96) : Prop := 72 ≤ c.val ∧ c.val < 80

instance (c : Fin 96) : Decidable (Cross c) := by unfold Cross; infer_instance
instance (c : Fin 96) : Decidable (Both c) := by unfold Both; infer_instance
instance (c : Fin 96) : Decidable (Curve c) := by unfold Curve; infer_instance
instance (c : Fin 96) : Decidable (Back c) := by unfold Back; infer_instance

/-- The mask the layout allows at place `u` of channel `c`. -/
def layout (K : Masks) (c : Fin 96) (u : Fin 25 × Fin 25) : EReal :=
  if Cross c ∧ Hits mid armA u then K (ix3 c 12 0)
  else if Cross c ∧ Hits armA mid u then -K (ix3 c 12 0)
  else if Both c ∧ Hits armA armA u then K (ix3 c 0 0)
  else if Both c ∧ Hits armA armB u then -K (ix3 c 0 0)
  else if (Curve c ∨ Both c) ∧ Hits curR curC u then K (ix3 c 1 8)
  else if Back c ∧ Hits bakR bakC u then K (ix3 c 1 17)
  else 0

/-! ## The precondition's words -/

/-- Channel `c` lies in `[lo, hi)`. -/
def chW (lo hi : BitVec 32) (c : Fin 96) : BitVec 1 :=
  IntOp.andi (IntOp.cmpi .sge (BitVec.ofNat 32 c.val) lo) (IntOp.cmpi .slt (BitVec.ofNat 32 c.val) hi)
/-- Coordinate `u` lies on an arm. -/
def armW (u : Fin 25) : BitVec 1 :=
  IntOp.andi (IntOp.cmpi .eq (IntOp.remsi .host (BitVec.ofNat 32 u.val) 3#32) 0#32) (IntOp.cmpi .ne (BitVec.ofNat 32 u.val) 12#32)
/-- Coordinate `u` is `p`. -/
def isW (u : Fin 25) (p : BitVec 32) : BitVec 1 := IntOp.cmpi .eq (BitVec.ofNat 32 u.val) p
/-- One tap of a curve. -/
def tapW (p q : BitVec 32) (a b : Fin 25) : BitVec 1 := IntOp.andi (isW a p) (isW b q)
/-- Any of eight words. -/
def anyW (z : Fin 8 → BitVec 1) : BitVec 1 :=
  IntOp.ori (IntOp.ori (IntOp.ori (IntOp.ori (IntOp.ori (IntOp.ori (IntOp.ori (z 0) (z 1)) (z 2)) (z 3)) (z 4)) (z 5)) (z 6)) (z 7)
def curveW (a b : Fin 25) : BitVec 1 := anyW ![tapW 1#32 8#32 a b, tapW 4#32 9#32 a b, tapW 6#32 10#32 a b, tapW 9#32 11#32 a b,
  tapW 15#32 13#32 a b, tapW 17#32 14#32 a b, tapW 20#32 15#32 a b, tapW 23#32 16#32 a b]
def backW (a b : Fin 25) : BitVec 1 := anyW ![tapW 1#32 17#32 a b, tapW 3#32 16#32 a b, tapW 7#32 14#32 a b, tapW 10#32 13#32 a b,
  tapW 14#32 11#32 a b, tapW 17#32 10#32 a b, tapW 21#32 8#32 a b, tapW 23#32 7#32 a b]
def diagW (a b : Fin 25) : BitVec 1 := IntOp.cmpi .eq (BitVec.ofNat 32 a.val) (BitVec.ofNat 32 b.val)
def antiW (a b : Fin 25) : BitVec 1 := IntOp.cmpi .eq (IntOp.addi (BitVec.ofNat 32 a.val) (BitVec.ofNat 32 b.val)) 24#32

/-- A channel's weight, spread over its mask. -/
def spread (K : Masks) (o : Fin 3 → ℕ) (h : S96x25x25.Slices o S96x1x1) : S96x25x25.Idx → EReal :=
  broadcastInDim S96x25x25 ![0, 1, 2] Facts.bcast_S96x1x1_S96x25x25_0_1_2 (extractStridedSlice S96x1x1 o K h)

/-- The layout as the precondition spells it. -/
def printed (K : Masks) (c : Fin 96) (a b : Fin 25) : EReal :=
  if IntOp.andi (IntOp.andi (chW 0#32 16#32 c) (armW b)) (isW a 12#32) = 1#1 then spread K ![0, 12, 0] Facts.slices_S96x25x25_S96x1x1_0_12_0 (ix3 c a b)
  else if IntOp.andi (IntOp.andi (chW 0#32 16#32 c) (armW a)) (isW b 12#32) = 1#1 then -spread K ![0, 12, 0] Facts.slices_S96x25x25_S96x1x1_0_12_0 (ix3 c a b)
  else if IntOp.andi (IntOp.andi (chW 64#32 72#32 c) (armW a)) (diagW a b) = 1#1 then spread K ![0, 0, 0] Facts.slices_S96x25x25_S96x1x1_0_0_0 (ix3 c a b)
  else if IntOp.andi (IntOp.andi (chW 64#32 72#32 c) (armW a)) (antiW a b) = 1#1 then -spread K ![0, 0, 0] Facts.slices_S96x25x25_S96x1x1_0_0_0 (ix3 c a b)
  else if IntOp.andi (IntOp.ori (chW 48#32 56#32 c) (chW 64#32 72#32 c)) (curveW a b) = 1#1 then spread K ![0, 1, 8] Facts.slices_S96x25x25_S96x1x1_0_1_8 (ix3 c a b)
  else if IntOp.andi (chW 72#32 80#32 c) (backW a b) = 1#1 then spread K ![0, 1, 17] Facts.slices_S96x25x25_S96x1x1_0_1_17 (ix3 c a b)
  else Ideal.ofBits .f32 0x00000000#32

theorem mask_printed (X : Image) (K : Masks) (c : Fin 96) (a b : Fin 25) :
    (Cert.Pre_coaligned.fn (F := Ideal) X K).2.2 (ix3 c a b) = Ideal.cmp .oeq (K (ix3 c a b)) (printed K c a b) := rfl

theorem image_printed (X : Image) (K : Masks) (i : S128x55x55x96.Idx) :
    (Cert.Pre_coaligned.fn (F := Ideal) X K).1 i = Ideal.cmp .olt (max (X i) (-X i)) (Ideal.ofBits .f32 0x7F800000#32) := rfl

theorem masks_printed (X : Image) (K : Masks) (i : S96x25x25.Idx) :
    (Cert.Pre_coaligned.fn (F := Ideal) X K).2.1 i = Ideal.cmp .olt (max (K i) (-K i)) (Ideal.ofBits .f32 0x7F800000#32) := rfl

/-! ## Read -/

theorem and_one (x y : BitVec 1) : IntOp.andi x y = 1#1 ↔ x = 1#1 ∧ y = 1#1 := by revert x y; decide
theorem or_one (x y : BitVec 1) : IntOp.ori x y = 1#1 ↔ x = 1#1 ∨ y = 1#1 := by revert x y; decide

theorem cross_one (c : Fin 96) : chW 0#32 16#32 c = 1#1 ↔ Cross c := by revert c; decide +kernel
theorem both_one (c : Fin 96) : chW 64#32 72#32 c = 1#1 ↔ Both c := by revert c; decide +kernel
theorem curve_one (c : Fin 96) : chW 48#32 56#32 c = 1#1 ↔ Curve c := by revert c; decide +kernel
theorem back_one (c : Fin 96) : chW 72#32 80#32 c = 1#1 ↔ Back c := by revert c; decide +kernel

theorem row_taps (a b : Fin 25) : (armW b = 1#1 ∧ isW a 12#32 = 1#1) ↔ Hits mid armA (a, b) := by revert a b; decide +kernel
theorem turned_taps (a b : Fin 25) : Hits mid armA (b, a) ↔ Hits armA mid (a, b) :=
  ⟨fun ⟨n, h⟩ => ⟨n, h.2, h.1⟩, fun ⟨n, h⟩ => ⟨n, h.2, h.1⟩⟩
theorem diagonal_taps (a b : Fin 25) : (armW a = 1#1 ∧ diagW a b = 1#1) ↔ Hits armA armA (a, b) := by revert a b; decide +kernel
theorem antidiagonal_taps (a b : Fin 25) : (armW a = 1#1 ∧ antiW a b = 1#1) ↔ Hits armA armB (a, b) := by revert a b; decide +kernel
theorem curve_taps (a b : Fin 25) : curveW a b = 1#1 ↔ Hits curR curC (a, b) := by revert a b; decide +kernel
theorem back_taps (a b : Fin 25) : backW a b = 1#1 ↔ Hits bakR bakC (a, b) := by revert a b; decide +kernel

/-- A spread weight is the channel's own at the weight's place. -/
theorem spread_read (K : Masks) (p q : Fin 25) (o : Fin 3 → ℕ) (ho : o = ![0, p.val, q.val]) (h : S96x25x25.Slices o S96x1x1) (c : Fin 96) (a b : Fin 25) :
    spread K o h (ix3 c a b) = K (ix3 c p q) := by
  subst ho
  unfold spread
  refine (broadcastInDim_apply _ _ _ _ (ix3 c 0 0 : S96x1x1.Idx) ?_).trans ?_
  · intro e
    match e with
    | ⟨0, _⟩ => rfl
    | ⟨1, _⟩ => rfl
    | ⟨2, _⟩ => rfl
  · refine congrArg K (funext fun e => Fin.ext ?_)
    match e with
    | ⟨0, _⟩ => show 0 + c.val = c.val; omega
    | ⟨1, _⟩ => rfl
    | ⟨2, _⟩ => rfl

theorem printed_eq (K : Masks) (c : Fin 96) (u : Fin 25 × Fin 25) : printed K c u.1 u.2 = layout K c u := by
  obtain ⟨a, b⟩ := u
  unfold printed layout
  simp only [and_one, or_one, and_assoc, cross_one, both_one, curve_one, back_one, row_taps, diagonal_taps, antidiagonal_taps,
    curve_taps, back_taps, Ideal.ofBits_zero_f32]
  simp only [turned_taps a b]
  rw [spread_read K 12 0 ![0, 12, 0] rfl, spread_read K 0 0 ![0, 0, 0] rfl, spread_read K 1 8 ![0, 1, 8] rfl, spread_read K 1 17 ![0, 1, 17] rfl]

/-- An extended real whose absolute value is below infinity is a real. -/
theorem real_of_below (x : EReal) (h : Ideal.cmp .olt (max x (-x)) (Ideal.ofBits .f32 0x7F800000#32) = 1#1) : ∃ r : ℝ, x = r := by
  have top : Ideal.ofBits .f32 0x7F800000#32 = ⊤ := by simp [Ideal.ofBits, Ideal.ieee]
  rw [top] at h
  induction x using EReal.rec with
  | bot => exact absurd h (by simp [Ideal.cmp])
  | coe r => exact ⟨r, rfl⟩
  | top => exact absurd h (by simp [Ideal.cmp])

/-- What the kernel takes for granted, in plain terms. -/
structure Granted (X : Image) (K : Masks) : Prop where
  image : ∀ i, ∃ r : ℝ, X i = r
  masks : ∀ i, ∃ r : ℝ, K i = r
  shape : ∀ c u, K (ix3 c u.1 u.2) = layout K c u

theorem granted (X : Image) (K : Masks) (h : (Cert.Pre_coaligned.fn (F := Ideal) X K).1 = (fun _ => 1#1)
    ∧ (Cert.Pre_coaligned.fn (F := Ideal) X K).2.1 = (fun _ => 1#1) ∧ (Cert.Pre_coaligned.fn (F := Ideal) X K).2.2 = (fun _ => 1#1)) : Granted X K where
  image i := real_of_below _ ((image_printed X K i).symm.trans (congrFun h.1 i))
  masks i := real_of_below _ ((masks_printed X K i).symm.trans (congrFun h.2.1 i))
  shape c u := by
    have e := (mask_printed X K c u.1 u.2).symm.trans (congrFun h.2.2 _)
    rw [printed_eq K c u] at e
    by_contra ne
    exact absurd e (by simp [Ideal.cmp, ne])

end Cert.Lateral
-- ==== Proof.Val.Equal.lean ====
module

public import proofs.«01_k».proof.Proof.Val.Mask

@[expose] public section

set_option maxRecDepth 16384

noncomputable section

/-! # The full correlation with a mask of the layout, as sums over its taps -/

namespace Cert.Lateral

open Idealize.ShloMosaic
open Cert.KernelIdeal.Hand (armA armB curR curC bakR bakC sum8)

/-! ## Over the reals -/

/-- Eight distinct places inside a mask. -/
structure Taps (r s : Fin 8 → ℕ) : Prop where
  row : ∀ n, r n < 25
  column : ∀ n, s n < 25
  apart : ∀ n k, r n = r k → s n = s k → n = k

/-- A sum over the whole mask of something that lives on eight places is the sum over those. -/
theorem sum_taps {r s : Fin 8 → ℕ} (h : Taps r s) (ζ : ℕ → ℕ → ℝ) (w : ℝ) :
    ∑ u : Fin 25 × Fin 25, ζ u.1.val u.2.val * (if Hits r s u then w else 0) = (∑ n, ζ (r n) (s n)) * w := by
  rw [Finset.sum_mul]
  refine (Fintype.sum_of_injective (fun n : Fin 8 => ((⟨r n, h.row n⟩, ⟨s n, h.column n⟩) : Fin 25 × Fin 25)) ?_ _ _ ?_ ?_).symm
  · intro n k e
    exact h.apart n k (congrArg (fun u : Fin 25 × Fin 25 => u.1.val) e) (congrArg (fun u : Fin 25 × Fin 25 => u.2.val) e)
  · intro u hu
    rw [if_neg, mul_zero]
    rintro ⟨n, e, f⟩
    exact hu ⟨n, Prod.ext (Fin.ext e) (Fin.ext f)⟩
  · intro n
    rw [if_pos ⟨n, rfl, rfl⟩]

theorem coe_sum {ι : Type} (s : Finset ι) (f : ι → ℝ) : ∑ u ∈ s, ((f u : ℝ) : EReal) = ((∑ u ∈ s, f u : ℝ) : EReal) := by
  classical
  induction s using Finset.induction_on with
  | empty => simp
  | insert a s ha ih => rw [Finset.sum_insert ha, Finset.sum_insert ha, ih, EReal.coe_add]

/-- The kernel's eight-term tree is the sum. -/
theorem sum8_coe (f : Fin 8 → ℝ) : sum8 (fun n => ((f n : ℝ) : EReal)) = ((∑ n, f n : ℝ) : EReal) := by
  unfold sum8
  rw [Fin.sum_univ_eight]
  simp only [← EReal.coe_add]
  congr 1
  ring

/-! ## Over the extended reals, the elements real -/

section
variable {Z : ℕ → ℕ → EReal} (hZ : ∀ p q, ∃ r : ℝ, Z p q = r)
include hZ

/-- One set of taps. -/
theorem one_shape {r s : Fin 8 → ℕ} (h : Taps r s) (w : EReal) (hw : ∃ x : ℝ, w = x) :
    ∑ u : Fin 25 × Fin 25, Z u.1.val u.2.val * (if Hits r s u then w else 0) = sum8 (fun n => Z (r n) (s n)) * w := by
  choose ζ hζ using hZ
  obtain ⟨w, rfl⟩ := hw
  simp only [hζ]
  rw [sum8_coe, ← EReal.coe_mul, ← sum_taps h ζ w, ← coe_sum]
  refine Finset.sum_congr rfl fun u _ => ?_
  split <;> simp

/-- Two sets of taps, the second with the weight's negative. -/
theorem two_shapes {r s r' s' : Fin 8 → ℕ} (h : Taps r s) (h' : Taps r' s') (apart : ∀ u, Hits r s u → ¬ Hits r' s' u)
    (w : EReal) (hw : ∃ x : ℝ, w = x) :
    ∑ u : Fin 25 × Fin 25, Z u.1.val u.2.val * (if Hits r s u then w else if Hits r' s' u then -w else 0)
      = (sum8 (fun n => Z (r n) (s n)) - sum8 (fun n => Z (r' n) (s' n))) * w := by
  choose ζ hζ using hZ
  obtain ⟨w, rfl⟩ := hw
  simp only [hζ]
  rw [sum8_coe, sum8_coe, ← EReal.coe_sub, ← EReal.coe_mul, sub_mul, ← sum_taps h ζ w, ← sum_taps h' ζ w, ← Finset.sum_sub_distrib, ← coe_sum]
  refine Finset.sum_congr rfl fun u _ => ?_
  by_cases a : Hits r s u
  · simp [a, apart u a]
  · by_cases b : Hits r' s' u
    · simp [a, b]
    · simp [a, b]

/-- Three sets of taps, the last with a weight of its own. -/
theorem three_shapes {r s r' s' r'' s'' : Fin 8 → ℕ} (h : Taps r s) (h' : Taps r' s') (h'' : Taps r'' s'')
    (apart : ∀ u, Hits r s u → ¬ Hits r' s' u) (apart' : ∀ u, Hits r s u → ¬ Hits r'' s'' u) (apart'' : ∀ u, Hits r' s' u → ¬ Hits r'' s'' u)
    (w v : EReal) (hw : ∃ x : ℝ, w = x) (hv : ∃ x : ℝ, v = x) :
    ∑ u : Fin 25 × Fin 25, Z u.1.val u.2.val * (if Hits r s u then w else if Hits r' s' u then -w else if Hits r'' s'' u then v else 0)
      = (sum8 (fun n => Z (r n) (s n)) - sum8 (fun n => Z (r' n) (s' n))) * w + sum8 (fun n => Z (r'' n) (s'' n)) * v := by
  choose ζ hζ using hZ
  obtain ⟨w, rfl⟩ := hw
  obtain ⟨v, rfl⟩ := hv
  simp only [hζ]
  rw [sum8_coe, sum8_coe, sum8_coe, ← EReal.coe_sub, ← EReal.coe_mul, ← EReal.coe_mul, ← EReal.coe_add, sub_mul, ← sum_taps h ζ w,
    ← sum_taps h' ζ w, ← sum_taps h'' ζ v, ← Finset.sum_sub_distrib, ← Finset.sum_add_distrib, ← coe_sum]
  refine Finset.sum_congr rfl fun u _ => ?_
  by_cases a : Hits r s u
  · simp [a, apart u a, apart' u a]
  · by_cases b : Hits r' s' u
    · simp [a, b, apart'' u b]
    · by_cases d : Hits r'' s'' u
      · simp [a, b, d]
      · simp [a, b, d]

end

/-! ## The four shapes -/

theorem taps_row : Taps mid armA := ⟨by decide, by decide, by decide⟩
theorem taps_column : Taps armA mid := ⟨by decide, by decide, by decide⟩
theorem taps_diagonal : Taps armA armA := ⟨by decide, by decide, by decide⟩
theorem taps_antidiagonal : Taps armA armB := ⟨by decide, by decide, by decide⟩
theorem taps_curve : Taps curR curC := ⟨by decide, by decide, by decide⟩
theorem taps_back : Taps bakR bakC := ⟨by decide, by decide, by decide⟩

/-! ## The result, shape by shape -/

section
variable {X : Image} {K : Masks} (g : Granted X K) (n : Fin 128) (a b : Fin 55) (ch : Fin 96)
include g

theorem framed_real (p q : ℕ) : ∃ r : ℝ, framed X n ch p q = r := by
  unfold framed
  split
  · exact g.image _
  · exact ⟨0, by simp⟩

/-- The window's element at `(p, q)`. -/
theorem window_real (p q : ℕ) : ∃ r : ℝ, framed X n ch (a.val + p) (b.val + q) = r := framed_real g n ch _ _

theorem lateral_cross (h : Cross ch) : lateral X K n a b ch
    = framed X n ch (a.val + 12) (b.val + 12)
      + (sum8 (fun k => framed X n ch (a.val + 12) (b.val + armA k)) - sum8 (fun k => framed X n ch (a.val + armA k) (b.val + 12))) * K (ix3 ch 12 0) := by
  unfold lateral
  rw [framed_centre, add_comm]
  refine congrArg (X (ix4 n a b ch) + ·) ?_
  refine Eq.trans ?_ (two_shapes (Z := fun p q => framed X n ch (a.val + p) (b.val + q)) (window_real g n a b ch) taps_row taps_column (by decide +kernel) _ (g.masks _))
  refine Finset.sum_congr rfl fun u _ => ?_
  have hb : ¬ Both ch := fun e => by unfold Both Cross at *; omega
  have hc : ¬ Curve ch := fun e => by unfold Curve Cross at *; omega
  have hk : ¬ Back ch := fun e => by unfold Back Cross at *; omega
  rw [g.shape]
  unfold layout
  simp only [h, hb, hc, hk, true_and, false_and, or_false, if_false]

theorem lateral_curve (h : Curve ch) : lateral X K n a b ch
    = framed X n ch (a.val + 12) (b.val + 12) + sum8 (fun k => framed X n ch (a.val + curR k) (b.val + curC k)) * K (ix3 ch 1 8) := by
  unfold lateral
  rw [framed_centre, add_comm]
  refine congrArg (X (ix4 n a b ch) + ·) ?_
  refine Eq.trans ?_ (one_shape (Z := fun p q => framed X n ch (a.val + p) (b.val + q)) (window_real g n a b ch) taps_curve _ (g.masks _))
  refine Finset.sum_congr rfl fun u _ => ?_
  have hx : ¬ Cross ch := fun e => by unfold Curve Cross at *; omega
  have hb : ¬ Both ch := fun e => by unfold Both Curve at *; omega
  have hk : ¬ Back ch := fun e => by unfold Back Curve at *; omega
  rw [g.shape]
  unfold layout
  simp only [h, hb, hx, hk, true_and, false_and, or_false, if_false]

theorem lateral_both (h : Both ch) : lateral X K n a b ch
    = framed X n ch (a.val + 12) (b.val + 12)
      + (sum8 (fun k => framed X n ch (a.val + armA k) (b.val + armA k)) - sum8 (fun k => framed X n ch (a.val + armA k) (b.val + armB k))) * K (ix3 ch 0 0)
      + sum8 (fun k => framed X n ch (a.val + curR k) (b.val + curC k)) * K (ix3 ch 1 8) := by
  unfold lateral
  rw [framed_centre, add_comm, add_assoc]
  refine congrArg (X (ix4 n a b ch) + ·) ?_
  refine Eq.trans ?_ (three_shapes (Z := fun p q => framed X n ch (a.val + p) (b.val + q)) (window_real g n a b ch) taps_diagonal taps_antidiagonal taps_curve
    (by decide +kernel) (by decide +kernel) (by decide +kernel) _ _ (g.masks _) (g.masks _))
  refine Finset.sum_congr rfl fun u _ => ?_
  have hx : ¬ Cross ch := fun e => by unfold Both Cross at *; omega
  have hc : ¬ Curve ch := fun e => by unfold Both Curve at *; omega
  have hk : ¬ Back ch := fun e => by unfold Back Both at *; omega
  rw [g.shape]
  unfold layout
  simp only [h, hc, hx, hk, true_and, false_and, or_true, if_false]

theorem lateral_back (h : Back ch) : lateral X K n a b ch
    = framed X n ch (a.val + 12) (b.val + 12) + sum8 (fun k => framed X n ch (a.val + bakR k) (b.val + bakC k)) * K (ix3 ch 1 17) := by
  unfold lateral
  rw [framed_centre, add_comm]
  refine congrArg (X (ix4 n a b ch) + ·) ?_
  refine Eq.trans ?_ (one_shape (Z := fun p q => framed X n ch (a.val + p) (b.val + q)) (window_real g n a b ch) taps_back _ (g.masks _))
  refine Finset.sum_congr rfl fun u _ => ?_
  have hx : ¬ Cross ch := fun e => by unfold Back Cross at *; omega
  have hb : ¬ Both ch := fun e => by unfold Both Back at *; omega
  have hc : ¬ Curve ch := fun e => by unfold Back Curve at *; omega
  rw [g.shape]
  unfold layout
  simp only [h, hb, hx, hc, true_and, false_and, or_false, if_false]

theorem lateral_copy (hx : ¬ Cross ch) (hc : ¬ Curve ch) (hb : ¬ Both ch) (hk : ¬ Back ch) : lateral X K n a b ch
    = framed X n ch (a.val + 12) (b.val + 12) := by
  unfold lateral
  rw [framed_centre]
  rw [Finset.sum_eq_zero, zero_add]
  intro u _
  rw [g.shape]
  unfold layout
  simp only [hx, hb, hk, hc, false_and, or_false, if_false, mul_zero]

end

end Cert.Lateral
-- ==== Proof.Val.Array.lean ====
module

public import proofs.«01_k».proof.Proof.PI.Frame
public import proofs.«01_k».proof.Proof.Val.Host
public import proofs.«01_k».proof.Proof.Val.Equal
public import Idealize.ShloMosaic.Lib.Pipeline.ValueKit

@[expose] public section

set_option maxRecDepth 16384

noncomputable section

/-! # The kernel's result array, element by element -/

namespace Cert.KernelIdeal.Hand

open Idealize.ShloMosaic Idealize.ShloMosaic.TcCoe Idealize.ShloMosaic.StableHlo
open Cert.KernelIdeal Cert.KernelIdeal.Gen Cert.Lateral

variable (m : (ℓ : Loc nD τ sig) → Buf (Elt Ideal) ℓ) (c : Dev nD)

/-- The two arguments. -/
abbrev img : Image := m ((c.tc : Thread nD τ).loc main_arg0)
abbrev msk : Masks := m ((c.tc : Thread nD τ).loc main_arg1)

/-- A channel of the block that block `b` of the grid works on. -/
def chan (b : ℕ) (r : Fin 8) : Fin 96 := ⟨8 * (physN b).val + r.val, by have := (physN b).isLt; have := r.isLt; omega⟩

/-- The padded scratch holds the framed image of its channels. -/
theorem pad_holds (b : ℕ) : Holds (padAt (slotN b) (physN b) (V m c main_v0)) (b % 2) (fun p q r l => framed (img m c) l (chan b r) p q) := by
  intro j hj
  unfold padAt
  by_cases h : InWin (slotN b) j
  · rw [dif_pos h]
    exact (image_read m c _ _ _ _).trans (framed_in (img m c) (j 4) (chan b (j 3)) (j 1).val (j 2).val
      ⟨⟨h.2.1, h.2.2.1⟩, ⟨h.2.2.2.1, h.2.2.2.2⟩⟩).symm
  · rw [dif_neg h]
    exact Ideal.ofBits_zero_f32.trans (framed_out (img m c) (j 4) (chan b (j 3)) (j 1).val (j 2).val
      (fun e => h ⟨hj, e.1.1, e.1.2, e.2.1, e.2.2⟩)).symm

theorem weights_index : ∀ t : Fin cfg0.N, win0_0.index t = ![0, 0, 0] := by decide +kernel

theorem result_index : ∀ t : Fin cfg0.N, win0_1.index t = ![t.val % 5, 0, (physN (t.val / 5)).val, 0] := by decide +kernel

/-- The weights' window is the whole array. -/
theorem weights_block (t : Fin cfg0.N) (k : Fin 16) (r : Fin 8) (l : Fin 128) :
    iblk m c 0 t (ix3 k r l : S16x8x128.Idx) = V m c main_v23 (ix3 k r l : S16x8x128.Idx) := by
  unfold iblk
  blk_ext [weights_index t]

/-- A row of the result that point `t` stores, and its place. -/
def rowAt (t : Fin cfg0.N) (y : Fin 11) : Fin 55 := ⟨11 * (t.val % 5) + y.val, by have := y.isLt; omega⟩

/-- Where the result's block at point `t` lies. -/
theorem result_place (t : Fin cfg0.N) (y : S11x55x8x128.Idx) :
    (win0_1.blk t).view.emb y = (ix4 (rowAt t (y 0)) (y 1) (chan (t.val / 5) (y 2)) (y 3) : S55x55x96x128.Idx) := by
  unfold rowAt chan
  blk_ext [result_index t]

/-! ## Which channels and weights each block works with -/

theorem cross_blocks : ∀ r : Fin 8, Cross (chan 0 r) ∧ Cross (chan 6 r) := by decide +kernel
theorem curve_block : ∀ r : Fin 8, Curve (chan 3 r) := by decide +kernel
theorem both_block : ∀ r : Fin 8, Both (chan 4 r) := by decide +kernel
theorem back_block : ∀ r : Fin 8, Back (chan 10 r) := by decide +kernel
theorem other_blocks : ∀ b : Fin 12, ¬ (b.val = 0 ∨ b.val = 6 ∨ b.val = 3 ∨ b.val = 4 ∨ b.val = 10) → ∀ r : Fin 8,
    ¬ Cross (chan b.val r) ∧ ¬ Curve (chan b.val r) ∧ ¬ Both (chan b.val r) ∧ ¬ Back (chan b.val r) := by decide +kernel

/-- Weight row `k` holds, for the channels of block `b`, the mask elements at `(p, q)`. -/
def RowFrom (k : Fin 16) (b : ℕ) (p q : Fin 25) : Prop := ∀ r : Fin 8, ∀ h : k.val * 8 + r.val < 128,
  chanOf ⟨k.val * 8 + r.val, h⟩ = chan b r ∧ rowOf ⟨k.val * 8 + r.val, h⟩ = p ∧ colOf ⟨k.val * 8 + r.val, h⟩ = q

theorem row_zero : RowFrom 0 0 12 0 := by unfold RowFrom; decide +kernel
theorem row_three : RowFrom 3 6 12 0 := by unfold RowFrom; decide +kernel
theorem row_four : RowFrom 4 3 1 8 := by unfold RowFrom; decide +kernel
theorem row_five : RowFrom 5 4 0 0 := by unfold RowFrom; decide +kernel
theorem row_seven : RowFrom 7 4 1 8 := by unfold RowFrom; decide +kernel
theorem row_eight : RowFrom 8 10 1 17 := by unfold RowFrom; decide +kernel

theorem weight_at (t : Fin cfg0.N) {k : Fin 16} {b : ℕ} {p q : Fin 25} (h : RowFrom k b p q) (r : Fin 8) (l : Fin 128) :
    iblk m c 0 t (ix3 k r l : S16x8x128.Idx) = msk m c (ix3 (chan b r) p q) := by
  have hk := k.isLt
  have hr := r.isLt
  obtain ⟨e1, e2, e3⟩ := h r (by omega)
  rw [weights_block, weights_read m c k r l ⟨k.val * 8 + r.val, by omega⟩ rfl, e1, e2, e3]

/-- One tap as the kernel reads it. -/
theorem tap_framed (X : Image) (t : Fin cfg0.N) (b : ℕ) (u : Fin 11) (v : Fin 55) (r : Fin 8) (l : Fin 128) (dh dw : ℕ) :
    tap (grid0.coords t) (fun p q r l => framed X l (chan b r) p q) (ix4 u v r l : S11x55x8x128.Idx) dh dw
      = framed X l (chan b r) ((rowAt t u).val + dh) (v.val + dw) := by
  have h1 := (coords_val t).2
  unfold tap
  show framed X l (chan b r) (11 * (grid0.coords t 1).val + (dh + u.val)) (dw + v.val) = framed X l (chan b r) (11 * (t.val % 5) + u.val + dh) (v.val + dw)
  rw [h1, Nat.add_comm dw, Nat.add_comm dh, Nat.add_assoc]

/-- What the kernel stores at one element is the reference's value there. -/
theorem point (g : Granted (img m c) (msk m c)) (t : Fin cfg0.N) (u : Fin 11) (v : Fin 55) (r : Fin 8) (l : Fin 128) :
    outAt m c t (ix4 u v r l : S11x55x8x128.Idx) = lateral (img m c) (msk m c) l (rowAt t u) v (chan (t.val / 5) r) := by
  obtain ⟨b, hb⟩ : ∃ b, t.val / 5 = b := ⟨_, rfl⟩
  have hlt : b < 12 := by have : t.val < 60 := t.isLt; omega
  have h0 : (grid0.coords t 0).val = b := (coords_val t).1.trans hb
  unfold outAt
  rw [hb]
  have hg : Holds (padAt (slotN b) (physN b) (V m c main_v0)) ((grid0.coords t 0).val % 2) (fun p q r l => framed (img m c) l (chan b r) p q) := by
    rw [h0]; exact pad_holds m c b
  by_cases k0 : b = 0
  · subst k0
    rw [out_cross (grid0.coords t) _ _ _ (ix4 u v r l : S11x55x8x128.Idx) r l hg rfl rfl (Or.inl h0), if_pos h0, weight_at m c t row_zero]
    simp only [tap_framed]
    exact (lateral_cross g _ _ _ _ (cross_blocks r).1).symm
  by_cases k6 : b = 6
  · subst k6
    rw [out_cross (grid0.coords t) _ _ _ (ix4 u v r l : S11x55x8x128.Idx) r l hg rfl rfl (Or.inr h0), if_neg (by omega), weight_at m c t row_three]
    simp only [tap_framed]
    exact (lateral_cross g _ _ _ _ (cross_blocks r).2).symm
  by_cases k3 : b = 3
  · subst k3
    rw [out_curve (grid0.coords t) _ _ _ (ix4 u v r l : S11x55x8x128.Idx) r l hg rfl rfl h0, weight_at m c t row_four]
    simp only [tap_framed]
    exact (lateral_curve g _ _ _ _ (curve_block r)).symm
  by_cases k4 : b = 4
  · subst k4
    rw [out_both (grid0.coords t) _ _ _ (ix4 u v r l : S11x55x8x128.Idx) r l hg rfl rfl h0, weight_at m c t row_five, weight_at m c t row_seven]
    simp only [tap_framed]
    exact (lateral_both g _ _ _ _ (both_block r)).symm
  by_cases k10 : b = 10
  · subst k10
    rw [out_back (grid0.coords t) _ _ _ (ix4 u v r l : S11x55x8x128.Idx) r l hg rfl rfl h0, weight_at m c t row_eight]
    simp only [tap_framed]
    exact (lateral_back g _ _ _ _ (back_block r)).symm
  · obtain ⟨n1, n2, n3, n4⟩ := other_blocks ⟨b, hlt⟩ (by show ¬ (b = 0 ∨ b = 6 ∨ b = 3 ∨ b = 4 ∨ b = 10); omega) r
    rw [out_copy (grid0.coords t) _ _ _ (ix4 u v r l : S11x55x8x128.Idx) r l hg rfl rfl (by omega)]
    simp only [tap_framed]
    exact (lateral_copy g _ _ _ _ n1 n2 n3 n4).symm

/-! ## The array and @main's result -/

/-- The kernel's array: the reference's value with the samples last. -/
def laterals (X : Image) (K : Masks) : S55x55x96x128.Idx → EReal := fun i => lateral X K (i 3) (i 0) (i 1) (i 2)

theorem array_read (g : Granted (img m c) (msk m c)) : (dats m 0 c).arrAt 1 cfg0.N = laterals (img m c) (msk m c) := by
  refine (dats m 0 c).arrAt_eq_of_covers 1 _ (by decide +kernel) fun t hf y => ?_
  blk_simp
  rw [after0_1]
  have e : y = (ix4 (y 0) (y 1) (y 2) (y 3) : S11x55x8x128.Idx) := by
    funext a; match a with | ⟨0, _⟩ => rfl | ⟨1, _⟩ => rfl | ⟨2, _⟩ => rfl | ⟨3, _⟩ => rfl
  exact ((congrArg (outAt m c t) e).trans (point m c g t (y 0) (y 1) (y 2) (y 3))).trans (congrArg (laterals (img m c) (msk m c)) (result_place t y)).symm

/-- @main's result. -/
theorem result_read (g : Granted (img m c) (msk m c)) (n : Fin 128) (a b : Fin 55) (ch : Fin 96) :
    Pipeline.afterTail₀ cfgs (dats m) 0 (V0 m) [hostOps1] c main_v25 (ix4 n a b ch : S128x55x55x96.Idx)
      = lateral (img m c) (msk m c) n a b ch := by
  unfold Pipeline.afterTail₀
  simp only [hostOps1, List.flatten_cons, List.flatten_nil, List.append_nil]
  after_results_simp
  refine (transpose_apply _ _ transposes_S55x55x96x128_S128x55x55x96_3_0_1_2 _ (ix4 a b ch n : S55x55x96x128.Idx) ?_).trans ?_
  · intro e
    match e with
    | ⟨0, _⟩ => rfl
    | ⟨1, _⟩ => rfl
    | ⟨2, _⟩ => rfl
    | ⟨3, _⟩ => rfl
  · exact (congrFun (Pipeline.withArrays_arr _ (by decide) c (V0 m c) (fun w => (dats m 0 c).arrAt w cfg0.N) 1) (ix4 a b ch n : S55x55x96x128.Idx)).trans
      (congrFun (array_read m c g) _)

end Cert.KernelIdeal.Hand
-- ==== Proof.Val.Ref.lean ====
module

public import proofs.«01_k».proof.Proof.Val.Common
public import proofs.«01_k».proof.Proof.Gen.ReferenceIdeal.Read
public import Idealize.ShloMosaic.Lib.KernelVsHost
public import Idealize.ShloMosaic.Lib.IdealHost
public import Idealize.ShloMosaic.Lib.ValueIdxRank6
public import Idealize.ShloMosaic.Lib.Pointwise.Reduce

@[expose] public section

set_option maxRecDepth 16384

noncomputable section

/-! # The reference's result, element by element -/

namespace Cert.ReferenceIdeal.Hand

open Idealize.ShloMosaic Idealize.ShloMosaic.StableHlo
open Cert.ReferenceIdeal Cert.ReferenceIdeal.Gen Cert.ReferenceIdeal.Read Cert.Lateral

/-- A rank six index of the patches. -/
abbrev at6 (n : Fin 128) (i : Fin 55) (d : Fin 25) (j : Fin 55) (e : Fin 25) (ch : Fin 96) : S128x55x25x55x25x96.Idx :=
  fun g => match g with | ⟨0, _⟩ => n | ⟨1, _⟩ => i | ⟨2, _⟩ => d | ⟨3, _⟩ => j | ⟨4, _⟩ => e | ⟨5, _⟩ => ch

/-- The index word of window place `d` at position `i`. -/
theorem word (i : Fin 55) (d : Fin 25) :
    (val_main_v12 (F := Ideal) (ix2 i d : S55x25.Idx)).toInt.toNat = i.val + d.val := by
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_c_0_apply, val_main_c_1_apply]
  revert i d
  decide +kernel

/-- The same for the columns. -/
theorem word' (i : Fin 55) (d : Fin 25) :
    (val_main_v19 (F := Ideal) (ix2 i d : S55x25.Idx)).toInt.toNat = i.val + d.val := word i d

/-- The framed image: inside the frame the image, elsewhere zero. -/
theorem pad_read (X : Image) (n : Fin 128) (p q : Fin 79) (ch : Fin 96) :
    val_main_v0 (F := Ideal) X (ix4 n p q ch : S128x79x79x96.Idx) = framed X n ch p.val q.val := by
  unfold val_main_v0 framed
  split
  · rename_i h
    refine pad_apply_of_inside _ _ _ _ _ _ _ _ _ fun a => ?_
    match a with
    | ⟨0, _⟩ => show n.val = 0 + n.val * 1; omega
    | ⟨1, _⟩ => show p.val = 12 + (p.val - 12) * 1; omega
    | ⟨2, _⟩ => show q.val = 12 + (q.val - 12) * 1; omega
    | ⟨3, _⟩ => show ch.val = 0 + ch.val * 1; omega
  · rename_i h
    have z : val_main_call0_v0 (F := Ideal) (Shape.Idx.first h_S_) = 0 := by
      rw [val_main_call0_v0_apply]
      show (((((0x00000000#32 : BitVec 32).toInt : ℤ) : ℝ)) : EReal) = 0
      simp
    refine Eq.trans ?_ z
    by_cases hp : 12 ≤ p.val ∧ p.val < 67
    · refine pad_apply_of_not_inside _ _ _ _ _ _ _ _ 2 fun e => h ⟨hp, ?_⟩
      have e1 : 12 ≤ q.val := e.1
      have e2 : (q.val - 12) / 1 < 55 := e.2.2
      omega
    · refine pad_apply_of_not_inside _ _ _ _ _ _ _ _ 1 fun e => hp ?_
      have e1 : 12 ≤ p.val := e.1
      have e2 : (p.val - 12) / 1 < 55 := e.2.2
      omega

/-- The rows' gather: place `d` of the window at row `i`. -/
theorem rows_read (x : S128x79x79x96.Idx → EReal) (idx : IVec S55x25x1 32) (n : Fin 128) (i : Fin 55) (d : Fin 25) (w : Fin 79) (ch : Fin 96)
    (p : Fin 79) (hp : (idx (ix3 i d 0 : S55x25x1.Idx)).toInt.toNat = p.val) :
    Host.gather gather_S128x79x79x96_S55x25x1_S128x55x25x79x96_034_1_n_n_1_2_12817996 x idx (ix5 n i d w ch : S128x55x25x79x96.Idx)
      = x (ix4 n p w ch : S128x79x79x96.Idx) := by
  unfold Host.gather
  refine congrArg x (funext fun e => Fin.ext ?_)
  show GatherDims.start _ _ idx e + GatherDims.batchCoord _ _ e + GatherDims.offCoord _ _ e = _
  rw [GatherDims.batchCoord_eq_zero _ _ _ List.not_mem_nil]
  have hs : GatherDims.siIdx gather_S128x79x79x96_S55x25x1_S128x55x25x79x96_034_1_n_n_1_2_12817996 (ix5 n i d w ch : S128x55x25x79x96.Idx)
      (0 : Fin 1) = (ix3 i d 0 : S55x25x1.Idx) := by
    funext b; match b with | ⟨0, _⟩ => rfl | ⟨1, _⟩ => rfl | ⟨2, _⟩ => rfl
  have out : ∀ a : Fin 4, a ≠ 1 → GatherDims.start gather_S128x79x79x96_S55x25x1_S128x55x25x79x96_034_1_n_n_1_2_12817996 (ix5 n i d w ch : S128x55x25x79x96.Idx) idx a = 0 := fun a ha =>
    dif_neg (show a ∉ ([1] : List (Fin 4)) by simpa using ha)
  have on : GatherDims.start gather_S128x79x79x96_S55x25x1_S128x55x25x79x96_034_1_n_n_1_2_12817996 (ix5 n i d w ch : S128x55x25x79x96.Idx) idx (1 : Fin 4) = p.val :=
    (dif_pos (show (1 : Fin 4) ∈ ([1] : List (Fin 4)) by decide)).trans
      ((congrArg (fun z => min (idx z).toInt.toNat 78) hs).trans (by
        show min (idx (ix3 i d 0 : S55x25x1.Idx)).toInt.toNat 78 = p.val; have := p.isLt; omega))
  match e with
  | ⟨0, _⟩ => exact (congrArg (· + 0 + GatherDims.offCoord gather_S128x79x79x96_S55x25x1_S128x55x25x79x96_034_1_n_n_1_2_12817996 (ix5 n i d w ch : S128x55x25x79x96.Idx) 0) (out 0 (by decide))).trans (Nat.zero_add _)
  | ⟨1, _⟩ => exact (congrArg (· + 0 + GatherDims.offCoord gather_S128x79x79x96_S55x25x1_S128x55x25x79x96_034_1_n_n_1_2_12817996 (ix5 n i d w ch : S128x55x25x79x96.Idx) 1) on).trans rfl
  | ⟨2, _⟩ => exact (congrArg (· + 0 + GatherDims.offCoord gather_S128x79x79x96_S55x25x1_S128x55x25x79x96_034_1_n_n_1_2_12817996 (ix5 n i d w ch : S128x55x25x79x96.Idx) 2) (out 2 (by decide))).trans (Nat.zero_add _)
  | ⟨3, _⟩ => exact (congrArg (· + 0 + GatherDims.offCoord gather_S128x79x79x96_S55x25x1_S128x55x25x79x96_034_1_n_n_1_2_12817996 (ix5 n i d w ch : S128x55x25x79x96.Idx) 3) (out 3 (by decide))).trans (Nat.zero_add _)

/-- The columns' gather: place `e` of the window at column `j`. -/
theorem patches_read (x : S128x55x25x79x96.Idx → EReal) (idx : IVec S55x25x1 32) (n : Fin 128) (i : Fin 55) (d : Fin 25) (j : Fin 55) (e : Fin 25)
    (ch : Fin 96) (q : Fin 79) (hq : (idx (ix3 j e 0 : S55x25x1.Idx)).toInt.toNat = q.val) :
    Host.gather gather_S128x55x25x79x96_S55x25x1_S128x55x25x55x25x96_0125_3_n_n_3_2_1285525196 x idx (at6 n i d j e ch)
      = x (ix5 n i d q ch : S128x55x25x79x96.Idx) := by
  unfold Host.gather
  refine congrArg x (funext fun g => Fin.ext ?_)
  show GatherDims.start _ _ idx g + GatherDims.batchCoord _ _ g + GatherDims.offCoord _ _ g = _
  rw [GatherDims.batchCoord_eq_zero _ _ _ List.not_mem_nil]
  have hs : GatherDims.siIdx gather_S128x55x25x79x96_S55x25x1_S128x55x25x55x25x96_0125_3_n_n_3_2_1285525196 (at6 n i d j e ch)
      (0 : Fin 1) = (ix3 j e 0 : S55x25x1.Idx) := by
    funext b; match b with | ⟨0, _⟩ => rfl | ⟨1, _⟩ => rfl | ⟨2, _⟩ => rfl
  have out : ∀ a : Fin 5, a ≠ 3 → GatherDims.start gather_S128x55x25x79x96_S55x25x1_S128x55x25x55x25x96_0125_3_n_n_3_2_1285525196 (at6 n i d j e ch) idx a = 0 := fun a ha =>
    dif_neg (show a ∉ ([3] : List (Fin 5)) by simpa using ha)
  have on : GatherDims.start gather_S128x55x25x79x96_S55x25x1_S128x55x25x55x25x96_0125_3_n_n_3_2_1285525196 (at6 n i d j e ch) idx (3 : Fin 5) = q.val :=
    (dif_pos (show (3 : Fin 5) ∈ ([3] : List (Fin 5)) by decide)).trans
      ((congrArg (fun z => min (idx z).toInt.toNat 78) hs).trans (by
        show min (idx (ix3 j e 0 : S55x25x1.Idx)).toInt.toNat 78 = q.val; have := q.isLt; omega))
  match g with
  | ⟨0, _⟩ => exact (congrArg (· + 0 + GatherDims.offCoord gather_S128x55x25x79x96_S55x25x1_S128x55x25x55x25x96_0125_3_n_n_3_2_1285525196 (at6 n i d j e ch) 0) (out 0 (by decide))).trans (Nat.zero_add _)
  | ⟨1, _⟩ => exact (congrArg (· + 0 + GatherDims.offCoord gather_S128x55x25x79x96_S55x25x1_S128x55x25x55x25x96_0125_3_n_n_3_2_1285525196 (at6 n i d j e ch) 1) (out 1 (by decide))).trans (Nat.zero_add _)
  | ⟨2, _⟩ => exact (congrArg (· + 0 + GatherDims.offCoord gather_S128x55x25x79x96_S55x25x1_S128x55x25x55x25x96_0125_3_n_n_3_2_1285525196 (at6 n i d j e ch) 2) (out 2 (by decide))).trans (Nat.zero_add _)
  | ⟨3, _⟩ => exact (congrArg (· + 0 + GatherDims.offCoord gather_S128x55x25x79x96_S55x25x1_S128x55x25x55x25x96_0125_3_n_n_3_2_1285525196 (at6 n i d j e ch) 3) on).trans rfl
  | ⟨4, _⟩ => exact (congrArg (· + 0 + GatherDims.offCoord gather_S128x55x25x79x96_S55x25x1_S128x55x25x55x25x96_0125_3_n_n_3_2_1285525196 (at6 n i d j e ch) 4) (out 4 (by decide))).trans (Nat.zero_add _)

/-- One product the reference sums. -/
theorem product_read (X : Image) (K : Masks) (n : Fin 128) (i : Fin 55) (d : Fin 25) (j : Fin 55) (e : Fin 25) (ch : Fin 96) :
    val_main_v25 (F := Ideal) X K (at6 n i d j e ch) = framed X n ch (i.val + d.val) (j.val + e.val) * K (ix3 ch d e) := by
  have hi := i.isLt
  have hd := d.isLt
  have hj := j.isLt
  have he := e.isLt
  rw [val_main_v25_apply]
  have hk : val_main_v24 (F := Ideal) K (at6 n i d j e ch) = K (ix3 ch d e) := by
    rw [val_main_v24_apply, val_main_v23_apply, val_main_v22_apply]
    refine congrArg K (funext fun b => ?_)
    match b with | ⟨0, _⟩ => rfl | ⟨1, _⟩ => rfl | ⟨2, _⟩ => rfl
  have hv : val_main_v21 (F := Ideal) X (at6 n i d j e ch) = framed X n ch (i.val + d.val) (j.val + e.val) := by
    unfold val_main_v21
    refine (patches_read _ _ n i d j e ch ⟨j.val + e.val, by omega⟩ ?_).trans ?_
    · rw [val_main_v20_apply]
      exact (congrArg (fun z => (val_main_v19 (F := Ideal) z).toInt.toNat) (funext fun b => by
        match b with | ⟨0, _⟩ => rfl | ⟨1, _⟩ => rfl)).trans (word' j e)
    · unfold val_main_v14
      refine (rows_read _ _ n i d _ ch ⟨i.val + d.val, by omega⟩ ?_).trans (pad_read X n _ _ ch)
      rw [val_main_v13_apply]
      exact (congrArg (fun z => (val_main_v12 (F := Ideal) z).toInt.toNat) (funext fun b => by
        match b with | ⟨0, _⟩ => rfl | ⟨1, _⟩ => rfl)).trans (word i d)
  rw [hk, hv]
  rfl

/-- The patches that are summed into one result element: one per pair of window places. -/
theorem fibre (j : S128x55x55x96.Idx) (i : S128x55x25x55x25x96.Idx) :
    (reducesTo_S128x55x25x55x25x96_S128x55x55x96_d2_4).drop i = j
      ↔ ∃ u : Fin 25 × Fin 25, at6 (j 0) (j 1) u.1 (j 2) u.2 (j 3) = i := by
  constructor
  · rintro rfl
    refine ⟨(i 2, i 4), funext fun g => ?_⟩
    match g with
    | ⟨0, _⟩ => rfl
    | ⟨1, _⟩ => rfl
    | ⟨2, _⟩ => rfl
    | ⟨3, _⟩ => rfl
    | ⟨4, _⟩ => rfl
    | ⟨5, _⟩ => rfl
  · rintro ⟨u, rfl⟩
    funext g
    match g with
    | ⟨0, _⟩ => rfl
    | ⟨1, _⟩ => rfl
    | ⟨2, _⟩ => rfl
    | ⟨3, _⟩ => rfl

/-- The reference's result. -/
theorem result_read (X : Image) (K : Masks) (n : Fin 128) (a b : Fin 55) (ch : Fin 96) :
    val_main_v27 (F := Ideal) X K (ix4 n a b ch : S128x55x55x96.Idx) = lateral X K n a b ch := by
  rw [val_main_v27_apply]
  unfold lateral val_main_v26
  refine congrArg (· + X (ix4 n a b ch)) ?_
  show Ideal.hostReduceAdd _ _ _ _ = _
  unfold Ideal.hostReduceAdd
  have z : val_main_cst (F := Ideal) (Shape.Idx.first h_S_) = 0 := by
    rw [val_main_cst_apply]; exact Ideal.ofBits_zero_f32
  rw [Finset.sum_filter_eq_sum_of_fiber _ (fun u : Fin 25 × Fin 25 => at6 n a u.1 b u.2 ch)
    (fun u v e => Prod.ext (congrFun e 2) (congrFun e 4)) (fibre (ix4 n a b ch : S128x55x55x96.Idx))]
  rw [z, zero_add]
  exact Finset.sum_congr rfl fun u _ => product_read X K n a u.1 b u.2 ch

end Cert.ReferenceIdeal.Hand
-- ==== Proof.Val.Algebraic.lean ====
module

public import proofs.«01_k».proof.Defs
public import proofs.«01_k».proof.Proof.Val.Array
public import proofs.«01_k».proof.Proof.Val.Mask
public import proofs.«01_k».proof.Proof.Val.Ref
public import proofs.«01_k».proof.Proof.Gen.ReferenceIdeal.Run
public import proofs.«01_k».proof.Proof.Gen.ReferenceIdeal.Read
public import proofs.«01_k».proof.Proof.Gen.Pre_coaligned

@[expose] public section

noncomputable section

/-! # Kernel and reference compute the same array -/

namespace Cert.Lateral

open Idealize.ShloMosaic Idealize.SL.Sem

/-- The whole result array of the problem. -/
def laterals4 (X : Image) (K : Masks) : Cert.ReferenceIdeal.S128x55x55x96.Idx → EReal :=
  fun i => lateral X K (i 0) (i 1) (i 2) (i 3)

/-- An index of the result is made of its four coordinates. -/
theorem result_idx (i : Cert.ReferenceIdeal.S128x55x55x96.Idx) :
    i = (ix4 (i 0) (i 1) (i 2) (i 3) : Cert.ReferenceIdeal.S128x55x55x96.Idx) := by
  funext e
  match e with
  | ⟨0, _⟩ => rfl
  | ⟨1, _⟩ => rfl
  | ⟨2, _⟩ => rfl
  | ⟨3, _⟩ => rfl

/-- The reference's result array. -/
theorem reference_array (X : Image) (K : Masks) :
    Cert.ReferenceIdeal.Read.val_main_v27 (F := Ideal) X K = laterals4 X K := by
  funext i
  exact (congrArg _ (result_idx i)).trans (Cert.ReferenceIdeal.Hand.result_read X K (i 0) (i 1) (i 2) (i 3))

end Cert.Lateral

namespace Cert.KernelIdeal.Hand

open Idealize.ShloMosaic Idealize.ShloMosaic.TcCoe Idealize.SL.Sem
open Cert.KernelIdeal Cert.KernelIdeal.Gen Cert.Lateral

variable (m : (ℓ : Loc nD τ sig) → Buf (Elt Ideal) ℓ) (ρ : Dev nD → PrngReg)

/-- The kernel's result array. -/
theorem kernel_array (c : Dev nD) (g : Granted (img m c) (msk m c)) :
    Pipeline.afterTail₀ cfgs (dats m) 0 (V0 m) [hostOps1] c main_v25 = laterals4 (img m c) (msk m c) := by
  funext i
  exact (congrArg _ (result_idx i)).trans (result_read m c g (i 0) (i 1) (i 2) (i 3))

/-- The kernel runs, and ends with the problem's result and its arguments as they were. -/
theorem kernel_value (g : ∀ c, Granted (img m c) (msk m c)) :
    θ_run defs (onTc (τ := τ) (main (F := Ideal))) ⟨m, fun _ => 0, ρ⟩ (fun r => ∀ c : Dev nD,
      r.2.mem ((c.tc : Thread nD τ).loc main_v25) = laterals4 (img m c) (msk m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h.1 c).2 main_v25 (Pipeline.mem_restRefs_of main_v25 (by decide) (by decide))).trans (kernel_array m c (g c)),
        ((h.1 c).2 main_arg0 (Pipeline.mem_restRefs_of main_arg0 (by decide) (by decide))).trans
          (tail_arg m c _ (V_main_arg0 m c) (by decide) (by decide)),
        ((h.1 c).2 main_arg1 (Pipeline.mem_restRefs_of main_arg1 (by decide) (by decide))).trans
          (tail_arg m c _ (V_main_arg1 m c) (by decide) (by decide))⟩) (run_main m ρ)

end Cert.KernelIdeal.Hand

namespace Cert.ReferenceIdeal.Hand

open Idealize.ShloMosaic Idealize.ShloMosaic.TcCoe Idealize.SL.Sem
open Cert.ReferenceIdeal Cert.ReferenceIdeal.Gen Cert.Lateral

/-- The reference runs, and ends with the problem's result and its arguments as they were. -/
theorem reference_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v27) = laterals4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1.trans (Cert.ReferenceIdeal.Read.val_main_v27_eq _ _)).trans (reference_array _ _), (h c).2⟩)
    (Cert.ReferenceIdeal.Value.run (F := Ideal) m ρ)

end Cert.ReferenceIdeal.Hand

namespace Cert.Lateral

open Idealize.ShloMosaic Idealize.SL.Sem

/-- From memories that agree on the arguments, under the precondition, kernel and reference both run and end with the
same array. -/
theorem algebraic : Cert.algebraic_KernelIdeal_ReferenceIdeal_pre_coaligned (hKernelIdeal := Cert.KernelIdeal.Gen.facts)
    (hReferenceIdeal := Cert.ReferenceIdeal.Gen.facts) (hPre_coaligned := Cert.Pre_coaligned.Gen.facts) := by
  intro m ρ m' ρ' hp same
  refine ⟨fun c => laterals4 (Cert.KernelIdeal.Hand.img m c) (Cert.KernelIdeal.Hand.msk m c),
    Cert.KernelIdeal.Hand.kernel_value m ρ fun c => granted _ _ (hp c), ?_⟩
  refine (θ_run Cert.ReferenceIdeal.defs _ _).mono (fun r h c => ⟨(h c).1.trans ?_, (h c).2⟩)
    (Cert.ReferenceIdeal.Hand.reference_value m' ρ')
  exact congrArg₂ laterals4 (same c).1 (same c).2

end Cert.Lateral

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_coaligned
public import proofs.«01_k».proof.Proof.P.Frame
public import proofs.«01_k».proof.Proof.PI.Frame
public import proofs.«01_k».proof.Proof.Val.Algebraic
public import Idealize.ShloMosaic.Adequacy
public import Idealize.ShloMosaic.Init
public import Idealize.ShloMosaic.Lib.Pipeline.ValueKit

@[expose] public section

noncomputable section

namespace Cert.Proof

open Idealize.ShloMosaic Idealize.SL.Sem Cert.Kernel

/-- The reference's host operations run to the end and leave both arguments as launched, all semaphores at zero. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_coaligned.Gen.facts,
  fun m ρ _ => Cert.Kernel.Hand.quiet m ρ, fun m ρ _ => Cert.KernelIdeal.Hand.quiet m ρ,
  fun m ρ _ => Cert.KernelIdeal.Hand.quiet m ρ, frame_reference, fun m ρ _ => frame_reference m ρ ⟨⟩, trivial,
  Cert.Lateral.algebraic⟩

end Cert.Proof

end
